-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x4096 : Shape := ⟨2, ![8192, 4096]⟩
abbrev S4 : Shape := ⟨1, ![4]⟩
abbrev S_ : Shape := ⟨0, ![]⟩
abbrev S8192x1024 : Shape := ⟨2, ![8192, 1024]⟩
abbrev S1024x1024 : Shape := ⟨2, ![1024, 1024]⟩
abbrev S1 : Shape := ⟨1, ![1]⟩
abbrev S2048x1024 : Shape := ⟨2, ![2048, 1024]⟩
abbrev S2x1024x1024 : Shape := ⟨3, ![2, 1024, 1024]⟩
abbrev S3x2048x1024 : Shape := ⟨3, ![3, 2048, 1024]⟩
abbrev S3 : Shape := ⟨1, ![3]⟩
abbrev S1x1024x1024 : Shape := ⟨3, ![1, 1024, 1024]⟩
abbrev S1x2048x1024 : Shape := ⟨3, ![1, 2048, 1024]⟩

abbrev nBuf : Space → Nat
  | .hbm => 35
  | .vmem => 8
  | .smem => 1
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S4, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i1⟩
  | .hbm, ⟨25, _⟩ => ⟨S_, .i32⟩
  | .hbm, ⟨26, _⟩ => ⟨S_, .i1⟩
  | .hbm, ⟨27, _⟩ => ⟨S4, .i1⟩
  | .hbm, ⟨28, _⟩ => ⟨S4, .i1⟩
  | .hbm, ⟨29, _⟩ => ⟨S4, .i1⟩
  | .hbm, ⟨30, _⟩ => ⟨S4, .i32⟩
  | .hbm, ⟨31, _⟩ => ⟨S4, .i32⟩
  | .hbm, ⟨32, _⟩ => ⟨S_, .bf16⟩
  | .hbm, ⟨33, _⟩ => ⟨S8192x1024, .bf16⟩
  | .hbm, ⟨34, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2x1024x1024, .bf16⟩
  | .local _ .vmem, ⟨6, _⟩ => ⟨S2x1024x1024, .bf16⟩
  | .local _ .vmem, ⟨7, _⟩ => ⟨S3x2048x1024, .bf16⟩
  | .local _ .smem, ⟨0, _⟩ => ⟨S4, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨1, ![65], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c63_i32 : BitVec 32 := 63#32
  let v0 : BitVec 32 := Scalar.minsi arg0 c63_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c16_i32 : BitVec 32 := 16#32
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let v1 : BitVec 32 := Scalar.divsi v0 c16_i32
  let c1_i32 : BitVec 32 := 1#32
  let v16 : BitVec 32 := Scalar.subi v1 c1_i32
  let v17 : BitVec 32 := Scalar.select v15 v16 v1
  let v55 : Index := Scalar.indexCast v17
  ![v55.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_74 : BitVec 32 := 1#32
  let v151 : BitVec 32 := Scalar.addi v2 c1_i32_74
  let c4_i32_75 : BitVec 32 := 4#32
  let c0_i32_76 : BitVec 32 := 0#32
  let v152 : BitVec 1 := Scalar.cmpi .eq c4_i32_75 c0_i32_76
  let c1_i32_77 : BitVec 32 := 1#32
  let v153 : BitVec 32 := Scalar.select v152 c1_i32_77 c4_i32_75
  let v154 : BitVec 32 := Scalar.remsi v151 v153
  let c0_i32_79 : BitVec 32 := 0#32
  let v156 : BitVec 1 := Scalar.cmpi .slt v154 c0_i32_79
  let c0_i32_80 : BitVec 32 := 0#32
  let v157 : BitVec 1 := Scalar.cmpi .slt v153 c0_i32_80
  let v158 : BitVec 1 := Scalar.xori v156 v157
  let c0_i32_78 : BitVec 32 := 0#32
  let v155 : BitVec 1 := Scalar.cmpi .ne v154 c0_i32_78
  let v159 : BitVec 1 := Scalar.andi v158 v155
  let v160 : BitVec 32 := Scalar.addi v154 v153
  let v161 : BitVec 32 := Scalar.select v159 v160 v154
  let c1_i32_82 : BitVec 32 := 1#32
  let v162 : BitVec 32 := Scalar.muli v161 c1_i32_82
  let v163 : BitVec 32 := Scalar.addi c0_i32_83 v162
  v163.toNat
def k0_dev2 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_84 : BitVec 32 := 2#32
  let v164 : BitVec 32 := Scalar.addi v2 c2_i32_84
  let c4_i32_85 : BitVec 32 := 4#32
  let c0_i32_86 : BitVec 32 := 0#32
  let v165 : BitVec 1 := Scalar.cmpi .eq c4_i32_85 c0_i32_86
  let c1_i32_87 : BitVec 32 := 1#32
  let v166 : BitVec 32 := Scalar.select v165 c1_i32_87 c4_i32_85
  let v167 : BitVec 32 := Scalar.remsi v164 v166
  let c0_i32_89 : BitVec 32 := 0#32
  let v169 : BitVec 1 := Scalar.cmpi .slt v167 c0_i32_89
  let c0_i32_90 : BitVec 32 := 0#32
  let v170 : BitVec 1 := Scalar.cmpi .slt v166 c0_i32_90
  let v171 : BitVec 1 := Scalar.xori v169 v170
  let c0_i32_88 : BitVec 32 := 0#32
  let v168 : BitVec 1 := Scalar.cmpi .ne v167 c0_i32_88
  let v172 : BitVec 1 := Scalar.andi v171 v168
  let v173 : BitVec 32 := Scalar.addi v167 v166
  let v174 : BitVec 32 := Scalar.select v172 v173 v167
  let c1_i32_92 : BitVec 32 := 1#32
  let v175 : BitVec 32 := Scalar.muli v174 c1_i32_92
  let v176 : BitVec 32 := Scalar.addi c0_i32_93 v175
  v176.toNat
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v177 : BitVec 32 := Scalar.addi v2 c3_i32
  let c4_i32_94 : BitVec 32 := 4#32
  let c0_i32_95 : BitVec 32 := 0#32
  let v178 : BitVec 1 := Scalar.cmpi .eq c4_i32_94 c0_i32_95
  let c1_i32_96 : BitVec 32 := 1#32
  let v179 : BitVec 32 := Scalar.select v178 c1_i32_96 c4_i32_94
  let v180 : BitVec 32 := Scalar.remsi v177 v179
  let c0_i32_98 : BitVec 32 := 0#32
  let v182 : BitVec 1 := Scalar.cmpi .slt v180 c0_i32_98
  let c0_i32_99 : BitVec 32 := 0#32
  let v183 : BitVec 1 := Scalar.cmpi .slt v179 c0_i32_99
  let v184 : BitVec 1 := Scalar.xori v182 v183
  let c0_i32_97 : BitVec 32 := 0#32
  let v181 : BitVec 1 := Scalar.cmpi .ne v180 c0_i32_97
  let v185 : BitVec 1 := Scalar.andi v184 v181
  let v186 : BitVec 32 := Scalar.addi v180 v179
  let v187 : BitVec 32 := Scalar.select v185 v186 v180
  let c1_i32_101 : BitVec 32 := 1#32
  let v188 : BitVec 32 := Scalar.muli v187 c1_i32_101
  let v189 : BitVec 32 := Scalar.addi c0_i32_102 v188
  v189.toNat
def k0_off2 (i : grid0.Coords) : Fin 3 → Nat :=
  let arg0 : BitVec 32 := BitVec.ofNat 32 (i 0).val
  let c2_i32 : BitVec 32 := 2#32
  let c0_i32_2 : BitVec 32 := 0#32
  let v8 : BitVec 1 := Scalar.cmpi .eq c2_i32 c0_i32_2
  let c1_i32_3 : BitVec 32 := 1#32
  let v9 : BitVec 32 := Scalar.select v8 c1_i32_3 c2_i32
  let v10 : BitVec 32 := Scalar.remsi arg0 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let v18 : Index := Scalar.indexCast v17
  let c0_7 : Index := 0#32
  let c0_8 : Index := 0#32
  ![v18.toNat, 0, 0]
def k0_off3 (i : grid0.Coords) : Fin 3 → Nat :=
  let arg0 : BitVec 32 := BitVec.ofNat 32 (i 0).val
  let c1_i32_43 : BitVec 32 := 1#32
  let v86 : BitVec 32 := Scalar.subi arg0 c1_i32_43
  let c2_i32_44 : BitVec 32 := 2#32
  let c0_i32_45 : BitVec 32 := 0#32
  let v87 : BitVec 1 := Scalar.cmpi .eq c2_i32_44 c0_i32_45
  let c1_i32_46 : BitVec 32 := 1#32
  let v88 : BitVec 32 := Scalar.select v87 c1_i32_46 c2_i32_44
  let v89 : BitVec 32 := Scalar.remsi v86 v88
  let c0_i32_48 : BitVec 32 := 0#32
  let v91 : BitVec 1 := Scalar.cmpi .slt v89 c0_i32_48
  let c0_i32_49 : BitVec 32 := 0#32
  let v92 : BitVec 1 := Scalar.cmpi .slt v88 c0_i32_49
  let v93 : BitVec 1 := Scalar.xori v91 v92
  let c0_i32_47 : BitVec 32 := 0#32
  let v90 : BitVec 1 := Scalar.cmpi .ne v89 c0_i32_47
  let v94 : BitVec 1 := Scalar.andi v93 v90
  let v95 : BitVec 32 := Scalar.addi v89 v88
  let v96 : BitVec 32 := Scalar.select v94 v95 v89
  let v97 : Index := Scalar.indexCast v96
  let c0_50 : Index := 0#32
  let c0_51 : Index := 0#32
  ![v97.toNat, 0, 0]
def k0_off4 (i : grid0.Coords) : Fin 2 → Nat :=
  let arg0 : BitVec 32 := BitVec.ofNat 32 (i 0).val
  let c1_i32_19 : BitVec 32 := 1#32
  let v38 : BitVec 32 := Scalar.subi arg0 c1_i32_19
  let c65_i32 : BitVec 32 := 65#32
  let c0_i32_20 : BitVec 32 := 0#32
  let v39 : BitVec 1 := Scalar.cmpi .eq c65_i32 c0_i32_20
  let c1_i32_21 : BitVec 32 := 1#32
  let v40 : BitVec 32 := Scalar.select v39 c1_i32_21 c65_i32
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c2_i32_37 : BitVec 32 := 2#32
  let c0_i32_38 : BitVec 32 := 0#32
  let v76 : BitVec 1 := Scalar.cmpi .eq c2_i32_37 c0_i32_38
  let c1_i32_39 : BitVec 32 := 1#32
  let v77 : BitVec 32 := Scalar.select v76 c1_i32_39 c2_i32_37
  let v78 : BitVec 32 := Scalar.remsi v48 v77
  let c0_i32_41 : BitVec 32 := 0#32
  let v80 : BitVec 1 := Scalar.cmpi .slt v78 c0_i32_41
  let c0_i32_42 : BitVec 32 := 0#32
  let v81 : BitVec 1 := Scalar.cmpi .slt v77 c0_i32_42
  let v82 : BitVec 1 := Scalar.xori v80 v81
  let c0_i32_40 : BitVec 32 := 0#32
  let v79 : BitVec 1 := Scalar.cmpi .ne v78 c0_i32_40
  let v83 : BitVec 1 := Scalar.andi v82 v79
  let v84 : BitVec 32 := Scalar.addi v78 v77
  let v85 : BitVec 32 := Scalar.select v83 v84 v78
  let c1024_i32 : BitVec 32 := 1024#32
  let v115 : BitVec 32 := Scalar.muli v85 c1024_i32
  let v118 : Index := Scalar.indexCast v115
  let c0_63 : Index := 0#32
  ![v118.toNat, 0]
def k0_cond3 (i : grid0.Coords) : BitVec 1 :=
  let arg0 : BitVec 32 := BitVec.ofNat 32 (i 0).val
  let c16_i32_66 : BitVec 32 := 16#32
  let v129 : BitVec 1 := Scalar.cmpi .eq arg0 c16_i32_66
  let v130 : BitVec 32 := Scalar.extui v129
  let c0_i32_67 : BitVec 32 := 0#32
  let v131 : BitVec 1 := Scalar.cmpi .ne v130 c0_i32_67
  v131

def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v168 : BitVec 32 := Scalar.muli v2 c2048_i32
  let c0_i32_88 : BitVec 32 := 0#32
  ![v168.toNat, 0]
def k0_dev4 (v169 : BitVec 32) : Nat :=
  let c0_i32_87 : BitVec 32 := 0#32
  let c1_i32_86 : BitVec 32 := 1#32
  let v170 : BitVec 32 := Scalar.muli v169 c1_i32_86
  let v171 : BitVec 32 := Scalar.addi c0_i32_87 v170
  v171.toNat

def k0_chk1 (i : grid0.Coords) (v169 : BitVec 32) : Prop :=
  (∀ (k0_h3 : k0_cond3 i = 1#1), (k0_dev4 v169) < nD)
theorem k0_dev4_lt : ∀ (i : grid0.Coords) (v169 : BitVec 32) (k0_hw1 : k0_chk1 i v169), ∀ (k0_h3 : k0_cond3 i = 1#1), (k0_dev4 v169) < nD := fun i v169 k0_hw1 k0_h3 => k0_hw1 k0_h3

def k0_cond5 (i : grid0.Coords) : BitVec 1 :=
  let arg0 : BitVec 32 := BitVec.ofNat 32 (i 0).val
  let c32_i32 : BitVec 32 := 32#32
  let v135 : BitVec 1 := Scalar.cmpi .eq arg0 c32_i32
  let v136 : BitVec 32 := Scalar.extui v135
  let c0_i32_69 : BitVec 32 := 0#32
  let v137 : BitVec 1 := Scalar.cmpi .ne v136 c0_i32_69
  v137

def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v168 : BitVec 32 := Scalar.muli v2 c2048_i32
  let c0_i32_87 : BitVec 32 := 0#32
  ![v168.toNat, 0]
def k0_dev5 (v169 : BitVec 32) : Nat :=
  let c0_i32_86 : BitVec 32 := 0#32
  let c1_i32_85 : BitVec 32 := 1#32
  let v170 : BitVec 32 := Scalar.muli v169 c1_i32_85
  let v171 : BitVec 32 := Scalar.addi c0_i32_86 v170
  v171.toNat

def k0_chk2 (i : grid0.Coords) (v169 : BitVec 32) : Prop :=
  (∀ (k0_h5 : k0_cond5 i = 1#1), (k0_dev5 v169) < nD)
theorem k0_dev5_lt : ∀ (i : grid0.Coords) (v169 : BitVec 32) (k0_hw2 : k0_chk2 i v169), ∀ (k0_h5 : k0_cond5 i = 1#1), (k0_dev5 v169) < nD := fun i v169 k0_hw2 k0_h5 => k0_hw2 k0_h5

def k0_cond7 (i : grid0.Coords) : BitVec 1 :=
  let arg0 : BitVec 32 := BitVec.ofNat 32 (i 0).val
  let c48_i32 : BitVec 32 := 48#32
  let v141 : BitVec 1 := Scalar.cmpi .eq arg0 c48_i32
  let v142 : BitVec 32 := Scalar.extui v141
  let c0_i32_71 : BitVec 32 := 0#32
  let v143 : BitVec 1 := Scalar.cmpi .ne v142 c0_i32_71
  v143

def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v168 : BitVec 32 := Scalar.muli v2 c2048_i32
  let c0_i32_87 : BitVec 32 := 0#32
  ![v168.toNat, 0]
def k0_dev6 (v169 : BitVec 32) : Nat :=
  let c0_i32_86 : BitVec 32 := 0#32
  let c1_i32_85 : BitVec 32 := 1#32
  let v170 : BitVec 32 := Scalar.muli v169 c1_i32_85
  let v171 : BitVec 32 := Scalar.addi c0_i32_86 v170
  v171.toNat

def k0_chk3 (i : grid0.Coords) (v169 : BitVec 32) : Prop :=
  (∀ (k0_h7 : k0_cond7 i = 1#1), (k0_dev6 v169) < nD)
theorem k0_dev6_lt : ∀ (i : grid0.Coords) (v169 : BitVec 32) (k0_hw3 : k0_chk3 i v169), ∀ (k0_h7 : k0_cond7 i = 1#1), (k0_dev6 v169) < nD := fun i v169 k0_hw3 k0_h7 => k0_hw3 k0_h7

def k0_cond8 (i : grid0.Coords) : BitVec 1 :=
  let arg0 : BitVec 32 := BitVec.ofNat 32 (i 0).val
  let c63_i32 : BitVec 32 := 63#32
  let v144 : BitVec 1 := Scalar.cmpi .eq arg0 c63_i32
  let v145 : BitVec 32 := Scalar.extui v144
  let c0_i32_72 : BitVec 32 := 0#32
  let v146 : BitVec 1 := Scalar.cmpi .ne v145 c0_i32_72
  v146

def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v150 : BitVec 32 := Scalar.muli v2 c2048_i32
  let c0_i32_81 : BitVec 32 := 0#32
  ![v150.toNat, 0]
def k0_cond9 (i : grid0.Coords) : BitVec 1 :=
  let arg0 : BitVec 32 := BitVec.ofNat 32 (i 0).val
  let c64_i32 : BitVec 32 := 64#32
  let v147 : BitVec 1 := Scalar.cmpi .eq arg0 c64_i32
  let v148 : BitVec 32 := Scalar.extui v147
  let c0_i32_73 : BitVec 32 := 0#32
  let v149 : BitVec 1 := Scalar.cmpi .ne v148 c0_i32_73
  v149

def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v168 : BitVec 32 := Scalar.muli v2 c2048_i32
  let c0_i32_83 : BitVec 32 := 0#32
  ![v168.toNat, 0]
def k0_off10 (d0 : Dev nD) (c1_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : BitVec 32 := Scalar.subi v2 c1_i32_86
  let c4_i32_87 : BitVec 32 := 4#32
  let c0_i32_88 : BitVec 32 := 0#32
  let v173 : BitVec 1 := Scalar.cmpi .eq c4_i32_87 c0_i32_88
  let c1_i32_89 : BitVec 32 := 1#32
  let v174 : BitVec 32 := Scalar.select v173 c1_i32_89 c4_i32_87
  let v175 : BitVec 32 := Scalar.remsi v172 v174
  let c0_i32_91 : BitVec 32 := 0#32
  let v177 : BitVec 1 := Scalar.cmpi .slt v175 c0_i32_91
  let c0_i32_92 : BitVec 32 := 0#32
  let v178 : BitVec 1 := Scalar.cmpi .slt v174 c0_i32_92
  let v179 : BitVec 1 := Scalar.xori v177 v178
  let c0_i32_90 : BitVec 32 := 0#32
  let v176 : BitVec 1 := Scalar.cmpi .ne v175 c0_i32_90
  let v180 : BitVec 1 := Scalar.andi v179 v176
  let v181 : BitVec 32 := Scalar.addi v175 v174
  let v182 : BitVec 32 := Scalar.select v180 v181 v175
  let c2048_i32_93 : BitVec 32 := 2048#32
  let v183 : BitVec 32 := Scalar.muli v182 c2048_i32_93
  let c0_i32_99 : BitVec 32 := 0#32
  ![v183.toNat, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c2_i32 c0_i32_12
  let v35 : BitVec 32 := Scalar.extui v34
  let c0_i32_13 : BitVec 32 := 0#32
  let v36 : BitVec 1 := Scalar.cmpi .slt c2_i32 c0_i32_13
  let v37 : BitVec 32 := Scalar.extui v36
  let v38 : BitVec 32 := Scalar.subi v35 v37
  let v39 : BitVec 1 := Scalar.cmpi .ne v33 v38
  let v40 : BitVec 32 := Scalar.remsi v27 c2_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c2_i32_16 : BitVec 32 := 2#32
  let c0_i32_17 : BitVec 32 := 0#32
  let v45 : BitVec 1 := Scalar.cmpi .eq c2_i32_16 c0_i32_17
  let c1_i32_18 : BitVec 32 := 1#32
  let v46 : BitVec 32 := Scalar.select v45 c1_i32_18 c2_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c0_i32_22 : BitVec 32 := 0#32
  ![v54.toNat, v44.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.divsi v27 c2_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c2_i32 c0_i32_12
  let v35 : BitVec 32 := Scalar.extui v34
  let c0_i32_13 : BitVec 32 := 0#32
  let v36 : BitVec 1 := Scalar.cmpi .slt c2_i32 c0_i32_13
  let v37 : BitVec 32 := Scalar.extui v36
  let v38 : BitVec 32 := Scalar.subi v35 v37
  let v39 : BitVec 1 := Scalar.cmpi .ne v33 v38
  let v40 : BitVec 32 := Scalar.remsi v27 c2_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c2_i32_16 : BitVec 32 := 2#32
  let c0_i32_17 : BitVec 32 := 0#32
  let v45 : BitVec 1 := Scalar.cmpi .eq c2_i32_16 c0_i32_17
  let c1_i32_18 : BitVec 32 := 1#32
  let v46 : BitVec 32 := Scalar.select v45 c1_i32_18 c2_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let v55 : Index := Scalar.indexCast v17
  let v56 : BitVec 32 := pf.at 0 (Rect.unit (s := S4) ![v55.toNat] S1.size (k0_off1_inb i)) numel1_S1
  let c0_i32_22 : BitVec 32 := 0#32
  ![v44.toNat, v56.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Geo.lean ====
/-
  WHERE THINGS LIE. The kernel's buffers as whole memrefs, the regions of them the kernel works on named by the
  coordinates of their elements (a slot of a two-slot buffer, a row half of the accumulator, a half of a send slot, a block of
  rows of the result), and what a load or a store through the printed rectangle reads or leaves on such a region.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic

@[expose] public section

set_option maxRecDepth 16384

noncomputable section

namespace Cert.KernelIdeal.Proof

open Cert.KernelIdeal Cert.KernelIdeal.Gen
open Idealize.ShloMosaic Idealize.ShloMosaic.TcCoe

variable {F : FTy → Type} [FloatOps F]

/-! ## The buffers -/

abbrev tabM : Memref sig .tc .smem S4 .i32 := Memref.whole main_v7
abbrev outM : Memref sig .tc .hbm S8192x1024 .bf16 := Memref.whole main_v9
abbrev accM : Memref sig .tc .vmem S2048x1024 .f32 := Memref.whole cc0_scratch0
abbrev xbM : Memref sig .tc .vmem S2x1024x1024 .bf16 := Memref.whole cc0_scratch1
abbrev wbM : Memref sig .tc .vmem S2x1024x1024 .bf16 := Memref.whole cc0_scratch2
abbrev sbM : Memref sig .tc .vmem S3x2048x1024 .bf16 := Memref.whole cc0_scratch3

/-! ## Regions by coordinates -/

/-- Slot `p` of a two-slot buffer. -/
def slot2 (p : ℕ) : Finset S2x1024x1024.Idx := Finset.univ.filter fun i => (i 0).val = p
/-- Row half `h` of the accumulator. -/
def accHalf (h : ℕ) : Finset S2048x1024.Idx := Finset.univ.filter fun i => (i 0).val / 1024 = h
/-- Send slot `r`. -/
def sendSlot (r : ℕ) : Finset S3x2048x1024.Idx := Finset.univ.filter fun i => (i 0).val = r
/-- Row half `h` of send slot `r`. -/
def sendHalf (r h : ℕ) : Finset S3x2048x1024.Idx := Finset.univ.filter fun i => (i 0).val = r ∧ (i 1).val / 1024 = h
/-- Block `k` of 2048 rows of the result. -/
def outRows (k : ℕ) : Finset S8192x1024.Idx := Finset.univ.filter fun i => (i 0).val / 2048 = k

/-! ## Contents by coordinates -/

/-- Position `(b mod 1024, c mod 1024)` of a block. -/
def pos2 (b c : ℕ) : S1024x1024.Idx := fun a =>
  ⟨(![b % 1024, c % 1024] : Fin 2 → ℕ) a, by fin_cases a <;> exact Nat.mod_lt _ (by decide)⟩
/-- Position `(b mod 1024, c mod 1024)` of a block with a leading axis of one. -/
def pos3 (b c : ℕ) : S1x1024x1024.Idx := fun a =>
  ⟨(![0, b % 1024, c % 1024] : Fin 3 → ℕ) a, by fin_cases a <;> first | exact Nat.one_pos | exact Nat.mod_lt _ (by decide)⟩

theorem pos2_eq (x : S1024x1024.Idx) : pos2 (x 0).val (x 1).val = x := by
  have h0 : (x 0).val < 1024 := (x 0).isLt
  have h1 : (x 1).val < 1024 := (x 1).isLt
  funext a; apply Fin.ext; fin_cases a
  · exact Nat.mod_eq_of_lt h0
  · exact Nat.mod_eq_of_lt h1
theorem pos3_eq (x : S1x1024x1024.Idx) : pos3 (x 1).val (x 2).val = x := by
  have h0 : (x 0).val < 1 := (x 0).isLt
  have h1 : (x 1).val < 1024 := (x 1).isLt
  have h2 : (x 2).val < 1024 := (x 2).isLt
  funext a; apply Fin.ext; fin_cases a
  · show 0 = (x 0).val; omega
  · exact Nat.mod_eq_of_lt h1
  · exact Nat.mod_eq_of_lt h2
theorem pos3_congr {b b' c c' : ℕ} (hb : b % 1024 = b' % 1024) (hc : c % 1024 = c' % 1024) : pos3 b c = pos3 b' c' := by
  unfold pos3; simp only [hb, hc]
theorem pos2_congr {b b' c c' : ℕ} (hb : b % 1024 = b' % 1024) (hc : c % 1024 = c' % 1024) : pos2 b c = pos2 b' c' := by
  unfold pos2; simp only [hb, hc]

variable {α : Type}

/-- A two-slot buffer holding the block `v` in each slot. -/
def slotBuf (v : S1x1024x1024.Idx → α) : S2x1024x1024.Idx → α := fun i => v (pos3 (i 1).val (i 2).val)
/-- The accumulator holding the block `v` in each half. -/
def accBuf (v : S1024x1024.Idx → α) : S2048x1024.Idx → α := fun i => v (pos2 (i 0).val (i 1).val)
/-- The send buffer holding the block `g h` in half `h` of each slot. -/
def sendBuf (g : ℕ → S1x1024x1024.Idx → α) : S3x2048x1024.Idx → α := fun i => g ((i 1).val / 1024) (pos3 (i 1).val (i 2).val)
/-- The result holding the block `g k h` in half `h` of row block `k`. -/
def outBuf (g : ℕ → ℕ → S1x1024x1024.Idx → α) : S8192x1024.Idx → α :=
  fun i => g ((i 0).val / 2048) ((i 0).val % 2048 / 1024) (pos3 (i 0).val (i 1).val)

/-! ## The printed rectangles are these regions -/

theorem set_slot2 {off : Fin 3 → ℕ} {p : ℕ} (h : off = ![p, 0, 0]) (inb : ∀ a, off a + S1x1024x1024.size a ≤ S2x1024x1024.size a) :
    (Rect.unit (s := S2x1024x1024) off S1x1024x1024.size inb).set = slot2 p := by
  subst h
  ext i
  have h1 : (i 1).val < 1024 := (i 1).isLt
  have h2 : (i 2).val < 1024 := (i 2).isLt
  rw [Rect.mem_set_unit, slot2, Finset.mem_filter]
  constructor
  · intro h; have h0 := h 0
    have h0 : p ≤ (i 0).val ∧ (i 0).val < p + 1 := h0
    exact ⟨Finset.mem_univ _, by omega⟩
  · rintro ⟨-, h⟩ a
    fin_cases a
    · show p ≤ (i 0).val ∧ (i 0).val < p + 1; omega
    · show 0 ≤ (i 1).val ∧ (i 1).val < 0 + 1024; omega
    · show 0 ≤ (i 2).val ∧ (i 2).val < 0 + 1024; omega

theorem set_accHalf {off : Fin 2 → ℕ} {h : ℕ} (e : off = ![1024 * h, 0]) (inb : ∀ a, off a + S1024x1024.size a ≤ S2048x1024.size a) :
    (Rect.unit (s := S2048x1024) off S1024x1024.size inb).set = accHalf h := by
  subst e
  ext i
  have h1 : (i 1).val < 1024 := (i 1).isLt
  rw [Rect.mem_set_unit, accHalf, Finset.mem_filter]
  constructor
  · intro h; have h0 := h 0
    have h0 : 1024 * _ ≤ (i 0).val ∧ (i 0).val < 1024 * _ + 1024 := h0
    exact ⟨Finset.mem_univ _, by omega⟩
  · rintro ⟨-, h⟩ a
    fin_cases a
    · show 1024 * _ ≤ (i 0).val ∧ (i 0).val < 1024 * _ + 1024; omega
    · show 0 ≤ (i 1).val ∧ (i 1).val < 0 + 1024; omega

theorem set_sendHalf {off : Fin 3 → ℕ} {r h : ℕ} (e : off = ![r, 1024 * h, 0]) (inb : ∀ a, off a + S1x1024x1024.size a ≤ S3x2048x1024.size a) :
    (Rect.unit (s := S3x2048x1024) off S1x1024x1024.size inb).set = sendHalf r h := by
  subst e
  ext i
  have h2 : (i 2).val < 1024 := (i 2).isLt
  rw [Rect.mem_set_unit, sendHalf, Finset.mem_filter]
  constructor
  · intro h; have h0 := h 0; have h1 := h 1
    have h0 : r ≤ (i 0).val ∧ (i 0).val < r + 1 := h0
    have h1 : 1024 * _ ≤ (i 1).val ∧ (i 1).val < 1024 * _ + 1024 := h1
    exact ⟨Finset.mem_univ _, by omega, by omega⟩
  · rintro ⟨-, h0, h1⟩ a
    fin_cases a
    · show r ≤ (i 0).val ∧ (i 0).val < r + 1; omega
    · show 1024 * _ ≤ (i 1).val ∧ (i 1).val < 1024 * _ + 1024; omega
    · show 0 ≤ (i 2).val ∧ (i 2).val < 0 + 1024; omega

theorem set_sendSlot {off : Fin 3 → ℕ} {r : ℕ} (e : off = ![r, 0, 0]) (inb : ∀ a, off a + S1x2048x1024.size a ≤ S3x2048x1024.size a) :
    (Rect.unit (s := S3x2048x1024) off S1x2048x1024.size inb).set = sendSlot r := by
  subst e
  ext i
  have h1 : (i 1).val < 2048 := (i 1).isLt
  have h2 : (i 2).val < 1024 := (i 2).isLt
  rw [Rect.mem_set_unit, sendSlot, Finset.mem_filter]
  constructor
  · intro h; have h0 := h 0
    have h0 : r ≤ (i 0).val ∧ (i 0).val < r + 1 := h0
    exact ⟨Finset.mem_univ _, by omega⟩
  · rintro ⟨-, h0⟩ a
    fin_cases a
    · show r ≤ (i 0).val ∧ (i 0).val < r + 1; omega
    · show 0 ≤ (i 1).val ∧ (i 1).val < 0 + 2048; omega
    · show 0 ≤ (i 2).val ∧ (i 2).val < 0 + 1024; omega

theorem set_outRows {off : Fin 2 → ℕ} {k : ℕ} (e : off = ![2048 * k, 0]) (inb : ∀ a, off a + S2048x1024.size a ≤ S8192x1024.size a) :
    (Rect.unit (s := S8192x1024) off S2048x1024.size inb).set = outRows k := by
  subst e
  ext i
  have h1 : (i 1).val < 1024 := (i 1).isLt
  rw [Rect.mem_set_unit, outRows, Finset.mem_filter]
  constructor
  · intro h; have h0 := h 0
    have h0 : 2048 * _ ≤ (i 0).val ∧ (i 0).val < 2048 * _ + 2048 := h0
    exact ⟨Finset.mem_univ _, by omega⟩
  · rintro ⟨-, h⟩ a
    fin_cases a
    · show 2048 * _ ≤ (i 0).val ∧ (i 0).val < 2048 * _ + 2048; omega
    · show 0 ≤ (i 1).val ∧ (i 1).val < 0 + 1024; omega

/-! ## The regions' unions -/

theorem slot2_union : slot2 0 ∪ slot2 1 = Finset.univ := by
  ext i
  have h0 : (i 0).val < 2 := (i 0).isLt
  simp only [slot2, Finset.mem_union, Finset.mem_filter, Finset.mem_univ, true_and, iff_true]; omega
theorem slot2_disj : Disjoint (slot2 0) (slot2 1) :=
  Finset.disjoint_left.mpr fun i h h' => by
    simp only [slot2, Finset.mem_filter, Finset.mem_univ, true_and] at h h'; omega
theorem accHalf_union : accHalf 0 ∪ accHalf 1 = Finset.univ := by
  ext i
  have h0 : (i 0).val < 2048 := (i 0).isLt
  simp only [accHalf, Finset.mem_union, Finset.mem_filter, Finset.mem_univ, true_and, iff_true]; omega
theorem accHalf_disj : Disjoint (accHalf 0) (accHalf 1) :=
  Finset.disjoint_left.mpr fun i h h' => by
    simp only [accHalf, Finset.mem_filter, Finset.mem_univ, true_and] at h h'; omega
theorem sendHalf_union (r : ℕ) : sendHalf r 0 ∪ sendHalf r 1 = sendSlot r := by
  ext i
  have h0 : (i 1).val < 2048 := (i 1).isLt
  simp only [sendHalf, sendSlot, Finset.mem_union, Finset.mem_filter, Finset.mem_univ, true_and]; omega
theorem sendHalf_disj (r : ℕ) : Disjoint (sendHalf r 0) (sendHalf r 1) :=
  Finset.disjoint_left.mpr fun i h h' => by
    simp only [sendHalf, Finset.mem_filter, Finset.mem_univ, true_and] at h h'; omega
theorem sendSlot_union : (sendSlot 0 ∪ sendSlot 1) ∪ sendSlot 2 = Finset.univ := by
  ext i
  have h0 : (i 0).val < 3 := (i 0).isLt
  simp only [sendSlot, Finset.mem_union, Finset.mem_filter, Finset.mem_univ, true_and, iff_true]; omega
theorem sendSlot_disj01 : Disjoint (sendSlot 0) (sendSlot 1) :=
  Finset.disjoint_left.mpr fun i h h' => by
    simp only [sendSlot, Finset.mem_filter, Finset.mem_univ, true_and] at h h'; omega
theorem sendSlot_disj2 : Disjoint (sendSlot 0 ∪ sendSlot 1) (sendSlot 2) :=
  Finset.disjoint_left.mpr fun i h h' => by
    simp only [sendSlot, Finset.mem_union, Finset.mem_filter, Finset.mem_univ, true_and] at h h'; omega
theorem outRows_disj {k k' : ℕ} (h : k ≠ k') : Disjoint (outRows k) (outRows k') :=
  Finset.disjoint_left.mpr fun i h h' => by
    simp only [outRows, Finset.mem_filter, Finset.mem_univ, true_and] at h h'; omega
theorem outRows_union : Finset.univ.biUnion (fun k : Dev nD => outRows k.val) = Finset.univ := by
  ext i
  have h0 : (i 0).val < 8192 := (i 0).isLt
  simp only [Finset.mem_biUnion, Finset.mem_univ, true_and, iff_true]
  refine ⟨(⟨(i 0).val / 2048, by show _ < 4; omega⟩ : Fin 4), ?_⟩
  simp only [outRows, Finset.mem_filter, Finset.mem_univ, true_and]

/-! ## What the rectangles read and leave -/

variable (Val : EltTy → Type)

theorem xb_read {off : Fin 3 → ℕ} {p : ℕ} (h : off = ![p, 0, 0]) (inb : ∀ a, off a + S1x1024x1024.size a ≤ S2x1024x1024.size a)
    (v : S1x1024x1024.Idx → Val .bf16) :
    (xbM.access (Rect.unit (s := S2x1024x1024) off S1x1024x1024.size inb)).read Val (slotBuf v) = v := by
  subst h
  funext x
  have h1 : (x 1).val < 1024 := (x 1).isLt
  have h2 : (x 2).val < 1024 := (x 2).isLt
  rw [View.read_apply]
  show v (pos3 (0 + 1 * (x 1).val) (0 + 1 * (x 2).val)) = v x
  conv_rhs => rw [← pos3_eq x]
  simp only [Nat.zero_add, Nat.one_mul]

theorem xb_write {off : Fin 3 → ℕ} {p : ℕ} (h : off = ![p, 0, 0]) (inb : ∀ a, off a + S1x1024x1024.size a ≤ S2x1024x1024.size a)
    (f : S2x1024x1024.Idx → Val .bf16) (w : S1x1024x1024.Idx → Val .bf16) :
    ∀ i ∈ slot2 p, (xbM.access (Rect.unit (s := S2x1024x1024) off S1x1024x1024.size inb)).write Val f w Finset.univ i = slotBuf w i := by
  intro i hi
  rw [← set_slot2 h inb] at hi
  subst h
  obtain ⟨x, -, rfl⟩ := Finset.mem_map.mp (by rw [← View.set_slice_whole cc0_scratch1] at hi; exact hi)
  rw [View.write_emb_of_mem _ _ (Finset.mem_univ x)]
  show w x = w (pos3 (0 + 1 * (x 1).val) (0 + 1 * (x 2).val))
  conv_lhs => rw [← pos3_eq x]
  simp only [Nat.zero_add, Nat.one_mul]

theorem wb_read {off : Fin 3 → ℕ} {p : ℕ} (h : off = ![p, 0, 0]) (inb : ∀ a, off a + S1x1024x1024.size a ≤ S2x1024x1024.size a)
    (v : S1x1024x1024.Idx → Val .bf16) :
    (wbM.access (Rect.unit (s := S2x1024x1024) off S1x1024x1024.size inb)).read Val (slotBuf v) = v := by
  subst h
  funext x
  have h1 : (x 1).val < 1024 := (x 1).isLt
  have h2 : (x 2).val < 1024 := (x 2).isLt
  rw [View.read_apply]
  show v (pos3 (0 + 1 * (x 1).val) (0 + 1 * (x 2).val)) = v x
  conv_rhs => rw [← pos3_eq x]
  simp only [Nat.zero_add, Nat.one_mul]

theorem wb_write {off : Fin 3 → ℕ} {p : ℕ} (h : off = ![p, 0, 0]) (inb : ∀ a, off a + S1x1024x1024.size a ≤ S2x1024x1024.size a)
    (f : S2x1024x1024.Idx → Val .bf16) (w : S1x1024x1024.Idx → Val .bf16) :
    ∀ i ∈ slot2 p, (wbM.access (Rect.unit (s := S2x1024x1024) off S1x1024x1024.size inb)).write Val f w Finset.univ i = slotBuf w i := by
  intro i hi
  rw [← set_slot2 h inb] at hi
  subst h
  obtain ⟨x, -, rfl⟩ := Finset.mem_map.mp (by rw [← View.set_slice_whole cc0_scratch2] at hi; exact hi)
  rw [View.write_emb_of_mem _ _ (Finset.mem_univ x)]
  show w x = w (pos3 (0 + 1 * (x 1).val) (0 + 1 * (x 2).val))
  conv_lhs => rw [← pos3_eq x]
  simp only [Nat.zero_add, Nat.one_mul]

theorem acc_read {off : Fin 2 → ℕ} {h : ℕ} (e : off = ![1024 * h, 0]) (inb : ∀ a, off a + S1024x1024.size a ≤ S2048x1024.size a)
    (v : S1024x1024.Idx → Val .f32) :
    (accM.access (Rect.unit (s := S2048x1024) off S1024x1024.size inb)).read Val (accBuf v) = v := by
  subst e
  funext x
  rw [View.read_apply]
  show v (pos2 (1024 * h + 1 * (x 0).val) (0 + 1 * (x 1).val)) = v x
  conv_rhs => rw [← pos2_eq x]
  exact congrArg v (pos2_congr (by omega) (by omega))

theorem acc_write {off : Fin 2 → ℕ} {h : ℕ} (e : off = ![1024 * h, 0]) (inb : ∀ a, off a + S1024x1024.size a ≤ S2048x1024.size a)
    (f : S2048x1024.Idx → Val .f32) (w : S1024x1024.Idx → Val .f32) :
    ∀ i ∈ accHalf h, (accM.access (Rect.unit (s := S2048x1024) off S1024x1024.size inb)).write Val f w Finset.univ i = accBuf w i := by
  intro i hi
  rw [← set_accHalf e inb] at hi
  subst e
  obtain ⟨x, -, rfl⟩ := Finset.mem_map.mp (by rw [← View.set_slice_whole cc0_scratch0] at hi; exact hi)
  rw [View.write_emb_of_mem _ _ (Finset.mem_univ x)]
  show w x = w (pos2 (1024 * h + 1 * (x 0).val) (0 + 1 * (x 1).val))
  conv_lhs => rw [← pos2_eq x]
  exact congrArg w (pos2_congr (by omega) (by omega))

theorem send_write {off : Fin 3 → ℕ} {r h : ℕ} (e : off = ![r, 1024 * h, 0]) (inb : ∀ a, off a + S1x1024x1024.size a ≤ S3x2048x1024.size a)
    (f : S3x2048x1024.Idx → Val .bf16) (w : S1x1024x1024.Idx → Val .bf16) (g : ℕ → S1x1024x1024.Idx → Val .bf16) (hg : g h = w) :
    ∀ i ∈ sendHalf r h, (sbM.access (Rect.unit (s := S3x2048x1024) off S1x1024x1024.size inb)).write Val f w Finset.univ i = sendBuf g i := by
  intro i hi
  rw [← set_sendHalf e inb] at hi
  subst e hg
  obtain ⟨x, -, rfl⟩ := Finset.mem_map.mp (by rw [← View.set_slice_whole cc0_scratch3] at hi; exact hi)
  have h1 : (x 1).val < 1024 := (x 1).isLt
  rw [View.write_emb_of_mem _ _ (Finset.mem_univ x)]
  show g h x = g ((1024 * h + 1 * (x 1).val) / 1024) (pos3 (1024 * h + 1 * (x 1).val) (0 + 1 * (x 2).val))
  rw [show (1024 * h + 1 * (x 1).val) / 1024 = h by omega]
  conv_lhs => rw [← pos3_eq x]
  exact congrArg (g h) (pos3_congr (by omega) (by omega))

/-! ## The memrefs the remote copies name -/

/-- A send slot, as a copy's source names it. -/
abbrev slotM (r : ℕ) (inb : ∀ a, (![r, 0, 0] : Fin 3 → ℕ) a + S1x2048x1024.size a ≤ S3x2048x1024.size a) : Memref sig .tc .vmem S2048x1024 .bf16 :=
  (sbM.slice (Rect.unit (s := S3x2048x1024) ![r, 0, 0] S1x2048x1024.size inb) (fun _ => rfl)).squeeze S2048x1024 squeezes_S1x2048x1024_S2048x1024
/-- A block of the result's rows, as a copy's destination names it. -/
abbrev rowsM (off : Fin 2 → ℕ) (inb : ∀ a, off a + S2048x1024.size a ≤ S8192x1024.size a) : Memref sig .tc .hbm S2048x1024 .bf16 :=
  outM.slice (Rect.unit (s := S8192x1024) off S2048x1024.size inb) (fun _ => rfl)

theorem slotM_set (r : ℕ) (inb) : (slotM r inb).view.set = sendSlot r := by
  show (((View.whole cc0_scratch3).slice _).reshape _ _).set = _
  rw [View.set_reshape, View.set_slice_whole]
  exact set_sendSlot rfl inb
theorem rowsM_set {off : Fin 2 → ℕ} {k : ℕ} (e : off = ![2048 * k, 0]) (inb) : (rowsM off inb).view.set = outRows k := by
  show ((View.whole main_v9).slice _).set = _
  rw [View.set_slice_whole]
  exact set_outRows e inb

theorem slotM_read (r : ℕ) (inb) (g : ℕ → S1x1024x1024.Idx → Val .bf16) (x : S2048x1024.Idx) :
    (slotM r inb).view.read Val (sendBuf g) x = g ((x 0).val / 1024) (pos3 (x 0).val (x 1).val) := by
  show sendBuf g ((Rect.unit (s := S3x2048x1024) ![r, 0, 0] S1x2048x1024.size inb).emb (Shape.reshapeEquiv _ x)) = _
  rw [Shape.reshapeEquiv_cons_one]
  show g ((0 + 1 * (x 0).val) / 1024) (pos3 (0 + 1 * (x 0).val) (0 + 1 * (x 1).val)) = _
  simp only [Nat.zero_add, Nat.one_mul]

theorem rowsM_write {off : Fin 2 → ℕ} {k : ℕ} (e : off = ![2048 * k, 0]) (inb) (r : ℕ) (inb' : ∀ a, (![r, 0, 0] : Fin 3 → ℕ) a + S1x2048x1024.size a ≤ S3x2048x1024.size a)
    (f : S8192x1024.Idx → Val .bf16) (g : ℕ → S1x1024x1024.Idx → Val .bf16) (G : ℕ → ℕ → S1x1024x1024.Idx → Val .bf16) (hg : G k = g) :
    ∀ i ∈ outRows k, (rowsM off inb).view.write Val f ((slotM r inb').view.read Val (sendBuf g)) Finset.univ i = outBuf G i := by
  intro i hi
  rw [← set_outRows e inb] at hi
  subst e hg
  obtain ⟨x, -, rfl⟩ := Finset.mem_map.mp (by rw [← View.set_slice_whole main_v9] at hi; exact hi)
  have h1 : (x 0).val < 2048 := (x 0).isLt
  rw [View.write_emb_of_mem _ _ (Finset.mem_univ x), slotM_read]
  show G k ((x 0).val / 1024) (pos3 (x 0).val (x 1).val) = G ((2048 * k + 1 * (x 0).val) / 2048) ((2048 * k + 1 * (x 0).val) % 2048 / 1024)
    (pos3 (2048 * k + 1 * (x 0).val) (0 + 1 * (x 1).val))
  rw [show (2048 * k + 1 * (x 0).val) / 2048 = k by omega, show (2048 * k + 1 * (x 0).val) % 2048 = (x 0).val by omega]
  exact congrArg (G k _) (pos3_congr (by omega) (by omega))

end Cert.KernelIdeal.Proof
-- ==== Proof.Sched.lean ====
/-
  THE PROTOCOL between the four devices, before any program step.

  Device `c` counts the other devices as `tgt c 0, tgt c 1, tgt c 2` (one, two, three places on round the ring), and `src c j` is the
  device that has `c` as its `tgt _ j`. Every device has eight cells:

    barrier          three duties of one unit; duty `j` is paid by `tgt c j`, which hands over its result's rows of block `c` and the fact
                     that its receive cell `j` is open: the right to be copied into.
    send `r`         one duty, the device's own copy `r` has left: the send slot `r` back.
    receive `r`      one duty, paid by `src c r`'s copy `r`: the rows of block `src c r` at what that device computed.
    copy             one duty, the local copy: the own rows, and send slot 0 back.

  Contents are named by `G d r h`, half `h` of what device `d` stores for its `r`-th target (`r = 3`: for itself).
-/
module

public import proofs.«01_k».proof.Proof.Geo

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

/-! ## The resource algebra: the pipeline library's copy and the protocol's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR
abbrev 𝒱₀ : Variants := Variants.none

/-! ## Who talks to whom -/

/-- The device `j + 1` places on. -/
def tgt (c : Dev nD) (j : Fin 3) : Dev nD := ⟨(c.val + j.val + 1) % 4, Nat.mod_lt _ (by decide)⟩
/-- The device whose `tgt _ j` this is. -/
def src (c : Dev nD) (j : Fin 3) : Dev nD := ⟨(c.val + 3 - j.val) % 4, Nat.mod_lt _ (by decide)⟩
theorem tgt_src (c : Dev nD) (j : Fin 3) : tgt (src c j) j = c := by revert c j; decide
theorem src_tgt (c : Dev nD) (j : Fin 3) : src (tgt c j) j = c := by revert c j; decide
theorem tgt_ne (c : Dev nD) (j : Fin 3) : tgt c j ≠ c := by revert c j; decide
/-- Going `j + 1` places on, as an equivalence. -/
def hop (j : Fin 3) : Dev nD ≃ Dev nD := ⟨fun c => tgt c j, fun c => src c j, fun c => src_tgt c j, fun c => tgt_src c j⟩

/-! ## The cells -/

abbrev barS : Sem sig := sig.barrier 0 rfl
abbrev sendS (r : Fin 3) : DmaSem sig := ⟨4 + r.val, by have := r.isLt; show _ < 11; omega⟩
abbrev recvS (r : Fin 3) : DmaSem sig := ⟨7 + r.val, by have := r.isLt; show _ < 11; omega⟩
abbrev copyS : DmaSem sig := ⟨10, by decide⟩

abbrev barCell (c : Dev nD) : GSem nD τ sig := ((c : Thread nD τ), .reg barS)
abbrev sendCell (c : Dev nD) (r : Fin 3) : GSem nD τ sig := ((c : Thread nD τ), .dma (sendS r))
abbrev recvCell (c : Dev nD) (r : Fin 3) : GSem nD τ sig := ((c : Thread nD τ), .dma (recvS r))
abbrev copyCell (c : Dev nD) : GSem nD τ sig := ((c : Thread nD τ), .dma copyS)

/-! ## Holding parts of the buffers -/

abbrev outPt (d : Dev nD) (S : Finset S8192x1024.Idx) (f : S8192x1024.Idx → Elt F .bf16) : sProp 𝕄 :=
  (outM.view.loc (d : Thread nD τ)) ↦[S]{fullShare} f
abbrev accPt (d : Dev nD) (S : Finset S2048x1024.Idx) (f : S2048x1024.Idx → Elt F .f32) : sProp 𝕄 :=
  (accM.view.loc (d : Thread nD τ)) ↦[S]{fullShare} f
abbrev xbPt (d : Dev nD) (S : Finset S2x1024x1024.Idx) (f : S2x1024x1024.Idx → Elt F .bf16) : sProp 𝕄 :=
  (xbM.view.loc (d : Thread nD τ)) ↦[S]{fullShare} f
abbrev wbPt (d : Dev nD) (S : Finset S2x1024x1024.Idx) (f : S2x1024x1024.Idx → Elt F .bf16) : sProp 𝕄 :=
  (wbM.view.loc (d : Thread nD τ)) ↦[S]{fullShare} f
abbrev sbPt (d : Dev nD) (S : Finset S3x2048x1024.Idx) (f : S3x2048x1024.Idx → Elt F .bf16) : sProp 𝕄 :=
  (sbM.view.loc (d : Thread nD τ)) ↦[S]{fullShare} f

/-- What one device's copies and stores carry: per chunk `r` and half `h`, a block. -/
abbrev Blocks (F : FTy → Type) : Type := Dev nD → ℕ → ℕ → S1x1024x1024.Idx → Elt F .bf16

variable (G : Blocks F)

/-- What the result of device `c` holds at the end: row block `k` is device `k`'s chunk for `c`. -/
def outG (c : Dev nD) : ℕ → ℕ → S1x1024x1024.Idx → Elt F .bf16 :=
  fun k => if hk : k < 4 then G (⟨k, hk⟩ : Fin 4) ((c.val + 3 - k) % 4) else G (0 : Fin 4) 0
theorem outG_tgt (c : Dev nD) (r : Fin 3) : outG G (tgt c r) c.val = G c r.val := by
  unfold outG
  rw [dif_pos (show c.val < 4 from c.isLt)]
  have h : ((tgt c r).val + 3 - c.val) % 4 = r.val := by revert c r; decide
  rw [h]
theorem outG_self (c : Dev nD) : outG G c c.val = G c 3 := by
  unfold outG
  rw [dif_pos (show c.val < 4 from c.isLt)]
  have h : (c.val + 3 - c.val) % 4 = 3 := by revert c; decide
  rw [h]
/-- The result of device `c`. -/
abbrev outF (c : Dev nD) : S8192x1024.Idx → Elt F .bf16 := outBuf (outG G c)

/-! ## The schedule -/

abbrev sbInb0 : ∀ a, (![0, 0, 0] : Fin 3 → ℕ) a + S1x2048x1024.size a ≤ S3x2048x1024.size a := inb_S3x2048x1024_S1x2048x1024_0_0_0

/-- The units one copy of a slot raises a semaphore by. -/
def N : ℕ := (slotM 0 sbInb0).view.dmaCredit
theorem N_pos : 0 < N := View.dmaCredit_pos _ (by decide)

/-- What `tgt c j` hands device `c` with its barrier unit. -/
def barPay (c : Dev nD) (j : Fin 3) : sProp 𝕄 :=
  iprop((∃ f, outPt (tgt c j) (outRows c.val) f) ∗ reached ER (recvCell (tgt c j) j) 0)
def sendPay (c : Dev nD) (r : ℕ) : sProp 𝕄 := sbPt c (sendSlot r) (sendBuf (G c r))
def recvPay (c : Dev nD) (r : Fin 3) : sProp 𝕄 := outPt c (outRows (src c r).val) (outF G c)
def copyPay (c : Dev nD) : sProp 𝕄 := iprop(outPt c (outRows c.val) (outF G c) ∗ sbPt c (sendSlot 0) (sendBuf (G c 3)))

/-- The payload of a DMA cell by its semaphore's number. -/
def dmaPay (c : Dev nD) (q : ℕ) : sProp 𝕄 :=
  if q < 4 then iprop(emp) else if q < 7 then sendPay G c (q - 4)
  else if h : q < 10 then recvPay G c ⟨(q - 7) % 3, Nat.mod_lt _ (by decide)⟩ else copyPay G c

def Rd : Rounds.Schedule (GSem nD τ sig) (Fin 3) 𝕄 where
  duties g r := if r = 0 ∧ g.1.2 = .tc then
      (match g.2 with
        | .reg _ => if g.2 = .reg barS then Finset.univ else ∅
        | .dma q => if 4 ≤ q.val then {0} else ∅)
    else ∅
  unitless _ := False
  amount g _ _ := match g.2 with
    | .reg _ => 1
    | .dma _ => N
  payload g _ d := match g.2 with
    | .reg _ => barPay g.1.1 d
    | .dma q => dmaPay G g.1.1 q.val
  amount_pos g _ _ _ := by
    rcases g with ⟨t, sm⟩
    cases sm with
    | reg q => exact Nat.one_pos
    | dma q => exact N_pos

instance storable_barPay (c : Dev nD) (d : Fin 3) : BI.Storable (upEmb : UEmb _ 𝕄) (barPay (F := F) c d) := by
  unfold barPay; infer_instance
instance storable_dmaPay (c : Dev nD) (q : ℕ) : BI.Storable (upEmb : UEmb _ 𝕄) (dmaPay G c q) := by
  unfold dmaPay sendPay recvPay copyPay
  (repeat' split) <;> infer_instance
instance Rd_storable (g : GSem nD τ sig) (r : ℕ) (d : Fin 3) :
    BI.Storable (upEmb : UEmb _ 𝕄) ((Rd (F := F) G).payload g r d) := by
  rcases g with ⟨t, sm⟩
  cases sm with
  | reg q => exact storable_barPay _ _
  | dma q => exact storable_dmaPay _ _ _

section Tables
variable (c : Dev nD) (r : Fin 3)

theorem duties_bar : (Rd G).duties (barCell c) 0 = Finset.univ := by
  dsimp only [Rd]; rw [if_pos ⟨rfl, rfl⟩, if_pos rfl]
theorem duties_dma (q : DmaSem sig) (hq : 4 ≤ q.val) : (Rd G).duties ((c : Thread nD τ), .dma q) 0 = {0} := by
  dsimp only [Rd]; rw [if_pos ⟨rfl, rfl⟩, if_pos hq]
theorem duties_later (g : GSem nD τ sig) : ∀ n, 1 ≤ n → (Rd G).duties g n = ∅ := fun n hn => by
  dsimp only [Rd]; exact if_neg fun h => by omega
theorem duties_send : (Rd G).duties (sendCell c r) 0 = {0} := duties_dma G c _ (Nat.le_add_right _ _)
theorem duties_recv : (Rd G).duties (recvCell c r) 0 = {0} := duties_dma G c _ (by show 4 ≤ 7 + r.val; omega)
theorem duties_copy : (Rd G).duties (copyCell c) 0 = {0} := duties_dma G c _ (by decide)

theorem expect_bar : (Rd G).expect (barCell c) 0 = 3 := by
  unfold Schedule.expect Schedule.amountOf; rw [duties_bar]; rfl
theorem expect_dma (q : DmaSem sig) (hq : 4 ≤ q.val) : (Rd G).expect ((c : Thread nD τ), .dma q) 0 = N := by
  unfold Schedule.expect Schedule.amountOf; rw [duties_dma G c q hq, Finset.sum_singleton]; rfl

theorem payload_bar : (Rd G).payload (barCell c) 0 r = barPay c r := rfl
theorem dmaPay_send : dmaPay G c (4 + r.val) = sendPay G c r.val := by
  have := r.isLt
  unfold dmaPay; rw [if_neg (by omega), if_pos (by omega), Nat.add_sub_cancel_left]
theorem dmaPay_recv : dmaPay G c (7 + r.val) = recvPay G c r := by
  have := r.isLt
  unfold dmaPay; rw [if_neg (by omega), if_neg (by omega), dif_pos (by omega)]
  congr 1; apply Fin.ext
  show (7 + r.val - 7) % 3 = r.val
  omega
theorem dmaPay_copy : dmaPay G c 10 = copyPay G c := by
  unfold dmaPay; rw [if_neg (by decide), if_neg (by decide), dif_neg (by decide)]
theorem payload_send : (Rd G).payload (sendCell c r) 0 0 = sendPay G c r.val := dmaPay_send G c r
theorem payload_recv : (Rd G).payload (recvCell c r) 0 0 = recvPay G c r := dmaPay_recv G c r
theorem payload_copy : (Rd G).payload (copyCell c) 0 0 = copyPay G c := dmaPay_copy G c

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((Rd G).duties (barCell c) 0 \ ∅) (fun u => (Rd G).payload (barCell c) 0 u)
    = iprop(barPay (F := F) c 0 ∗ barPay c 1 ∗ barPay c 2) := by
  rw [Finset.sdiff_empty, duties_bar, bigSep_fin3]; rfl
theorem rest_dma (q : DmaSem sig) (hq : 4 ≤ q.val) :
    bigSep ((Rd G).duties ((c : Thread nD τ), .dma q) 0 \ ∅) (fun u => (Rd G).payload ((c : Thread nD τ), .dma q) 0 u) = dmaPay G c q.val := by
  rw [Finset.sdiff_empty, duties_dma G c q hq, bigSep_singleton]; rfl

end Tables

/-! ## What each core owes; the levels -/

/-- The receive units device `c` still owes before point `s`. -/
def owedR (c : Dev nD) (s : ℕ) : CellTallies nD τ sig Unit :=
  (if s ≤ 48 then tallyAt (recvCell (tgt c 2) 2) () N else 0) + (if s ≤ 32 then tallyAt (recvCell (tgt c 1) 1) () N else 0)
    + (if s ≤ 16 then tallyAt (recvCell (tgt c 0) 0) () N else 0)
/-- What device `c` owes at launch: the receive units its copies pay, and one barrier unit to every other device. -/
def O₀ (c : Dev nD) : CellTallies nD τ sig Unit :=
  owedR c 0 + tallyAt (barCell (src c 0)) () 1 + tallyAt (barCell (src c 1)) () 1 + tallyAt (barCell (src c 2)) () 1
/-- What it owes before point `s`. -/
def owed (c : Dev nD) (s : ℕ) : CellTallies nD τ sig Unit := if s = 0 then O₀ c else owedR c s

def L (g : GSem nD τ sig) : Finset Unit := if g.1.2 = .tc then {()} else ∅
/-- Barrier cells at 1, receive cells at 2, the rest at 0. -/
def lv (g : GSem nD τ sig) (_ : Unit) : ℕ := match g.2 with
  | .reg _ => 1
  | .dma q => if 7 ≤ q.val ∧ q.val < 10 then 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 3) : lv (recvCell c r) () = 2 := by
  have := r.isLt
  dsimp only [lv]; rw [if_pos ⟨Nat.le_add_right _ _, by show 7 + r.val < 10; omega⟩]

/-- Where a sum of tallies is positive, one of them is. -/
theorem owedR_pos {c : Dev nD} {s : ℕ} {g : GSem nD τ sig} {u : Unit} (h : 0 < owedR c s g u) : ∃ r : Fin 3, g = recvCell (tgt c r) r := by
  by_contra hn
  have hn : ∀ r : Fin 3, ¬ g = recvCell (tgt c r) r := fun r hr => hn ⟨r, hr⟩
  have key : ∀ r : Fin 3, (tallyAt (recvCell (tgt c r) r) () N : CellTallies nD τ sig Unit) g u = 0 := fun r => by
    rw [tallyAt_apply, if_neg (fun h' => hn r h'.1)]
  have : owedR c s g u = 0 := by
    show ((if s ≤ 48 then _ else (0 : CellTallies nD τ sig Unit)) : CellTallies nD τ sig Unit) g u + _ + _ = 0
    split <;> split <;> split <;> simp only [key, Pi.zero_apply, Finsupp.coe_zero, Nat.add_zero] <;> rfl
  omega
theorem O₀_pos {c : Dev nD} {g : GSem nD τ sig} {u : Unit} (h : 0 < O₀ c g u) :
    (∃ r : Fin 3, g = recvCell (tgt c r) r) ∨ ∃ d, g = barCell d := by
  by_contra hn
  rw [not_or] at hn
  have key : ∀ r : Fin 3, (tallyAt (barCell (src c r)) () 1 : CellTallies nD τ sig Unit) g u = 0 := fun r => by
    rw [tallyAt_apply, if_neg (fun h' => hn.2 ⟨_, h'.1⟩)]
  have h0 : owedR c 0 g u = 0 := by
    by_contra h0; exact hn.1 (owedR_pos (Nat.pos_of_ne_zero h0))
  have : O₀ c g u = 0 := by
    show owedR c 0 g u + _ + _ + _ = 0
    rw [key 0, key 1, key 2, h0]
  omega

/-- A staging cell may wait whatever the core owes of the protocol. -/
theorem mayWait_stage (c : Dev nD) (q : DmaSem sig) (hq : q.val < 7) (s : ℕ) :
    (levAts L lv : sProp 𝕄) ⊢ MayWait (c : Thread nD τ) (.dma q) () (owed c s) := by
  refine MayOwe.of_cut (L := L) (lev := lv) 0 (fun p hp => by rw [Finset.mem_singleton.mp hp, L_tc]; exact Finset.mem_singleton_self _)
    (fun g u hg => ?_) (fun p hp => by
      rw [Finset.mem_singleton.mp hp]; dsimp only [lv]; rw [if_neg (fun h => by omega)]) (fun g u hg => ?_)
  · unfold owed at hg
    split at hg
    · rcases O₀_pos hg with ⟨r, rfl⟩ | ⟨d, rfl⟩ <;> rw [L_tc] <;> exact Finset.mem_singleton_self _
    · obtain ⟨r, rfl⟩ := owedR_pos hg
      rw [L_tc]; exact Finset.mem_singleton_self _
  · unfold owed at hg
    split at hg
    · rcases O₀_pos hg with ⟨r, rfl⟩ | ⟨d, rfl⟩
      · rw [lv_recv]; decide
      · dsimp only [lv]; decide
    · obtain ⟨r, rfl⟩ := owedR_pos hg
      rw [lv_recv]; decide
/-- The barrier may be waited for while the receive units are owed. -/
theorem mayWait_bar (c : Dev nD) (s : ℕ) :
    (levAts L lv : sProp 𝕄) ⊢ MayWait (c : Thread nD τ) (.reg barS) () (owedR c s) := by
  refine MayOwe.of_cut (L := L) (lev := lv) 1 (fun p hp => by rw [Finset.mem_singleton.mp hp, L_tc]; exact Finset.mem_singleton_self _)
    (fun g u hg => ?_) (fun p hp => by rw [Finset.mem_singleton.mp hp]; dsimp only [lv]; decide) (fun g u hg => ?_)
  · obtain ⟨r, rfl⟩ := owedR_pos hg
    rw [L_tc]; exact Finset.mem_singleton_self _
  · obtain ⟨r, rfl⟩ := owedR_pos hg
    rw [lv_recv]; decide

theorem owedR_late (c : Dev nD) {s : ℕ} (h : 48 < s) : owedR c s = 0 := by
  unfold owedR; rw [if_neg (by omega), if_neg (by omega), if_neg (by omega)]; simp only [add_zero]
/-- Nothing is paid at a point that sends nothing. -/
theorem owedR_step (c : Dev nD) {s : ℕ} (h0 : s ≠ 16) (h1 : s ≠ 32) (h2 : s ≠ 48) : owedR c (s + 1) = owedR c s := by
  unfold owedR
  simp only [show (s + 1 ≤ 48) = (s ≤ 48) from propext (by omega), show (s + 1 ≤ 32) = (s ≤ 32) from propext (by omega),
    show (s + 1 ≤ 16) = (s ≤ 16) from propext (by omega)]
theorem owedR_16 (c : Dev nD) : owedR c 16 = owedR c 17 + tallyAt (recvCell (tgt c 0) 0) () N := by
  unfold owedR; simp only [show (16 ≤ 48) = True by decide, show (16 ≤ 32) = True by decide, show (16 ≤ 16) = True by decide,
    show (17 ≤ 48) = True by decide, show (17 ≤ 32) = True by decide, show (17 ≤ 16) = False by decide, if_true, if_false, add_zero]
theorem owedR_32 (c : Dev nD) : owedR c 32 = owedR c 33 + tallyAt (recvCell (tgt c 1) 1) () N := by
  unfold owedR; simp only [show (32 ≤ 48) = True by decide, show (32 ≤ 32) = True by decide, show (32 ≤ 16) = False by decide,
    show (33 ≤ 48) = True by decide, show (33 ≤ 32) = False by decide, show (33 ≤ 16) = False by decide, if_true, if_false, add_zero]
theorem owedR_48 (c : Dev nD) : owedR c 48 = owedR c 49 + tallyAt (recvCell (tgt c 2) 2) () N := by
  unfold owedR; simp only [show (48 ≤ 48) = True by decide, show (48 ≤ 32) = False by decide, show (48 ≤ 16) = False by decide,
    show (49 ≤ 48) = False by decide, show (49 ≤ 32) = False by decide, show (49 ≤ 16) = False by decide, if_true, if_false, add_zero, zero_add]

end Cert.KernelIdeal.Proof
-- ==== Proof.Forms.lean ====
/-
  THE PRINTED SCALARS IN CLOSED FORM: at point `s` of the grid, which slot a load or a store names, which branches are taken,
  which device a copy or a signal goes to. Each is decided once, over all 65 points or all four devices.
-/
module

public import proofs.«01_k».proof.Proof.Sched

@[expose] public section

set_option maxRecDepth 16384

noncomputable section

namespace Cert.KernelIdeal.Proof

open Cert.KernelIdeal Cert.KernelIdeal.Gen
open Idealize.ShloMosaic Idealize.ShloMosaic.TcCoe

/-- The number of a grid point. -/
abbrev pt (i : grid0.Coords) : ℕ := (i 0).val
/-- The grid point of a number. -/
abbrev at65 (n : Fin 65) : grid0.Coords := fun a => ⟨n.val, by
  have : a = 0 := Fin.eq_zero a
  subst this; exact n.isLt⟩
theorem pt_lt (i : grid0.Coords) : pt i < 65 := (i 0).isLt
theorem at65_pt (i : grid0.Coords) : at65 ⟨pt i, pt_lt i⟩ = i := by
  funext a
  have : a = 0 := Fin.eq_zero a
  subst this; rfl
/-- What holds at all 65 numbers holds at all points. -/
theorem forall_pt {P : grid0.Coords → Prop} (h : ∀ n : Fin 65, P (at65 n)) (i : grid0.Coords) : P i := at65_pt i ▸ h _

/-- The accumulator half the point works on. -/
def half (s : ℕ) : ℕ := if s = 0 then 0 else (s + 1) % 2
/-- The block of the contraction it works on. -/
def kblk (s : ℕ) : ℕ := (s + 64) % 65 % 16 / 2

theorem off2_eq (i : grid0.Coords) : k0_off2 i = ![pt i % 2, 0, 0] :=
  forall_pt (P := fun i => k0_off2 i = ![pt i % 2, 0, 0]) (by decide +kernel) i
theorem off3_eq (i : grid0.Coords) : k0_off3 i = ![(pt i + 1) % 2, 0, 0] :=
  forall_pt (P := fun i => k0_off3 i = ![(pt i + 1) % 2, 0, 0]) (by decide +kernel) i
theorem off4_eq (i : grid0.Coords) : k0_off4 i = ![1024 * half (pt i), 0] :=
  forall_pt (P := fun i => k0_off4 i = ![1024 * half (pt i), 0]) (by decide +kernel) i
theorem cond1_iff (i : grid0.Coords) : k0_cond1 i = 1#1 ↔ pt i = 0 :=
  forall_pt (P := fun i => k0_cond1 i = 1#1 ↔ pt i = 0) (by decide +kernel) i
theorem cond3_iff (i : grid0.Coords) : k0_cond3 i = 1#1 ↔ pt i = 16 :=
  forall_pt (P := fun i => k0_cond3 i = 1#1 ↔ pt i = 16) (by decide +kernel) i
theorem cond5_iff (i : grid0.Coords) : k0_cond5 i = 1#1 ↔ pt i = 32 :=
  forall_pt (P := fun i => k0_cond5 i = 1#1 ↔ pt i = 32) (by decide +kernel) i
theorem cond7_iff (i : grid0.Coords) : k0_cond7 i = 1#1 ↔ pt i = 48 :=
  forall_pt (P := fun i => k0_cond7 i = 1#1 ↔ pt i = 48) (by decide +kernel) i
theorem cond8_iff (i : grid0.Coords) : k0_cond8 i = 1#1 ↔ pt i = 63 :=
  forall_pt (P := fun i => k0_cond8 i = 1#1 ↔ pt i = 63) (by decide +kernel) i
theorem cond9_iff (i : grid0.Coords) : k0_cond9 i = 1#1 ↔ pt i = 64 :=
  forall_pt (P := fun i => k0_cond9 i = 1#1 ↔ pt i = 64) (by decide +kernel) i

theorem off5_eq (c : Dev nD) : k0_off5 c = ![2048 * c.val, 0] := by revert c; decide +kernel
theorem off6_eq (c : Dev nD) : k0_off6 c = ![2048 * c.val, 0] := by revert c; decide +kernel
theorem off7_eq (c : Dev nD) : k0_off7 c = ![2048 * c.val, 0] := by revert c; decide +kernel
theorem off8_eq (c : Dev nD) : k0_off8 c = ![2048 * c.val, 0] := by revert c; decide +kernel
theorem off9_eq (c : Dev nD) : k0_off9 c = ![2048 * c.val, 0] := by revert c; decide +kernel
theorem off10_eq (c : Dev nD) (r : Fin 3) : k0_off10 c (BitVec.ofNat 32 (r.val + 1)) = ![2048 * (src c r).val, 0] := by
  revert c r; decide +kernel

theorem dev1_eq (c : Dev nD) : k0_dev1 c = (src c 2).val := by revert c; decide +kernel
theorem dev2_eq (c : Dev nD) : k0_dev2 c = (src c 1).val := by revert c; decide +kernel
theorem dev3_eq (c : Dev nD) : k0_dev3 c = (src c 0).val := by revert c; decide +kernel

/-- The table of targets: word `r` the device's `r`-th target, the last the device itself. -/
def tab (c : Dev nD) : S4.Idx → BitVec 32 := fun i => BitVec.ofNat 32 ((c.val + (i 0).val + 1) % 4)

end Cert.KernelIdeal.Proof
-- ==== Proof.State.lean ====
/-
  WHAT A DEVICE HOLDS BETWEEN TWO GRID POINTS. `xs c s` and `ws c s` are the blocks of `x` and `w_mat` staged at point `s` on
  device `c`; `accV c s` is what point `s` stores into its half of the accumulator; `Gv c r h` is the block it stores into half
  `h` of its `r`-th chunk. The assertions below say, before point `s`, which of these each buffer holds and how far the device's
  own copies have got.
-/
module

public import proofs.«01_k».proof.Proof.Forms

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-! ## The values -/

/-- The blocks staged at each point on each device. -/
abbrev Staged (F : FTy → Type) : Type := Dev nD → ℕ → Vec F S1024x1024 .bf16

variable (xs ws : Staged F) (c : Dev nD)

/-- What point `s` leaves in its slot of the copy of `x`, and of `w_mat`. -/
def xv (s : ℕ) : Vec F S1x1024x1024 .bf16 := k0_pay4 (xs c s)
def wv (s : ℕ) : Vec F S1x1024x1024 .bf16 := k0_pay6 (k0_pay5 (ws c s))
/-- What point `s` stores into its half of the accumulator, over what it finds there. -/
def stp (s : ℕ) (prev : Vec F S1024x1024 .f32) : Vec F S1024x1024 .f32 :=
  k0_pay8 (BitVec.ofNat 32 (kblk s)) (k0_pay7 (xv xs c (s - 1))) (wv ws c (s - 1)) prev
/-- What the halves of the accumulator hold before anything is stored: immaterial. -/
def acc0 : Vec F S1024x1024 .f32 := fun _ => Scalar.ofBits .f32 0#32
/-- What point `s` stores into its half of the accumulator. -/
def accV : ℕ → Vec F S1024x1024 .f32
  | 0 => acc0
  | 1 => stp xs ws c 1 acc0
  | s + 2 => stp xs ws c (s + 2) (accV s)
/-- Half `h` of chunk `r` of the device. -/
def Gv : Blocks F := fun c r h => k0_pay9 (accV xs ws c (16 * r + 15 + h))

/-- At the first block of the contraction what is found does not matter. -/
theorem pay8_zero (a : FVec F S1024x1024 .bf16) (b : Vec F S1x1024x1024 .bf16) (p p' : Vec F S1024x1024 .f32) :
    k0_pay8 (0#32) a b p = k0_pay8 (0#32) a b p' := rfl
theorem stp_zero {s : ℕ} (h : kblk s = 0) (p p' : Vec F S1024x1024 .f32) : stp xs ws c s p = stp xs ws c s p' := by
  unfold stp; rw [h]; exact pay8_zero _ _ _ _
theorem accV_step {s : ℕ} (h : 1 ≤ s) (p : Vec F S1024x1024 .f32) (hp : 3 ≤ s → p = accV xs ws c (s - 2)) :
    stp xs ws c s p = accV xs ws c s := by
  match s, h with
  | 1, _ => exact stp_zero xs ws c (by decide) _ _
  | 2, _ => exact stp_zero xs ws c (by decide) _ _
  | s + 3, _ =>
    rw [hp (by omega)]; rfl

/-! ## The launch's records -/

/-- The seven completion semaphores of a device: three of send, three of receipt, one of the local copy. -/
def scSem (k : Fin 7) : DmaSem sig := ⟨4 + k.val, by have := k.isLt; show _ < 11; omega⟩
def barEmb : Dev nD ↪ GSem nD τ sig := ⟨fun c => barCell c, fun a b h => congrArg (fun g : GSem nD τ sig => g.1.1) h⟩
theorem scSem_inj {a b : Fin 7} (h : (SemLoc.dma (scSem a) : SemLoc sig) = .dma (scSem b)) : a = b := by
  have h2 : 4 + a.val = 4 + b.val := congrArg Fin.val (SemLoc.dma.inj h)
  exact Fin.ext (by omega)
def scEmb : Dev nD × Fin 7 ↪ GSem nD τ sig :=
  ⟨fun p => ((p.1 : Thread nD τ), .dma (scSem p.2)), fun a b h =>
    Prod.ext (congrArg (fun g : GSem nD τ sig => g.1.1) h) (scSem_inj (congrArg Prod.snd h))⟩
abbrev barCells : Finset (GSem nD τ sig) := Finset.univ.map barEmb
abbrev scCells : Finset (GSem nD τ sig) := Finset.univ.map scEmb
abbrev allCells : Finset (GSem nD τ sig) := barCells ∪ scCells

theorem mem_bar (c : Dev nD) : barCell c ∈ (barCells : Finset (GSem nD τ sig)) := Finset.mem_map_of_mem barEmb (Finset.mem_univ c)
theorem mem_sc (c : Dev nD) (k : Fin 7) : (((c : Thread nD τ), SemLoc.dma (scSem k)) : GSem nD τ sig) ∈ (scCells : Finset _) :=
  Finset.mem_map_of_mem scEmb (Finset.mem_univ (c, k))
theorem mem_send (c : Dev nD) (r : Fin 3) : sendCell c r ∈ (scCells : Finset (GSem nD τ sig)) := by
  fin_cases r
  exacts [mem_sc c 0, mem_sc c 1, mem_sc c 2]
theorem mem_recv (c : Dev nD) (r : Fin 3) : recvCell c r ∈ (scCells : Finset (GSem nD τ sig)) := by
  fin_cases r
  exacts [mem_sc c 3, mem_sc c 4, mem_sc c 5]
theorem mem_copy (c : Dev nD) : copyCell c ∈ (scCells : Finset (GSem nD τ sig)) := mem_sc c 6

variable (G : Blocks F)

/-- Every cell's invariant, under one map of names, and round 0 of every barrier reached. -/
def records (K : GSem nD τ sig → ℕ) : sProp 𝕄 :=
  iprop((bigSep allCells fun g => cellInv ER (Rd G) (K g) g) ∗ bigSep barCells fun g => reached ER g 0)
instance (K : GSem nD τ sig → ℕ) : BI.Persistent (records G K) := by unfold records; infer_instance

theorem records_inv {K : GSem nD τ sig → ℕ} {g : GSem nD τ sig} (h : g ∈ allCells) : records G K ⊢ cellInv ER (Rd G) (K g) g := by
  unfold records
  exact sep_elim_left.trans (bigSep_elim (Φ := fun g => cellInv ER (Rd G) (K g) g) h)
theorem inv_bar (K : GSem nD τ sig → ℕ) (c : Dev nD) : records G K ⊢ cellInv ER (Rd G) (K (barCell c)) (barCell c) :=
  records_inv G (Finset.mem_union_left _ (mem_bar c))
theorem inv_send (K : GSem nD τ sig → ℕ) (c : Dev nD) (r : Fin 3) : records G K ⊢ cellInv ER (Rd G) (K (sendCell c r)) (sendCell c r) :=
  records_inv G (Finset.mem_union_right _ (mem_send c r))
theorem inv_recv (K : GSem nD τ sig → ℕ) (c : Dev nD) (r : Fin 3) : records G K ⊢ cellInv ER (Rd G) (K (recvCell c r)) (recvCell c r) :=
  records_inv G (Finset.mem_union_right _ (mem_recv c r))
theorem inv_copy (K : GSem nD τ sig → ℕ) (c : Dev nD) : records G K ⊢ cellInv ER (Rd G) (K (copyCell c)) (copyCell c) :=
  records_inv G (Finset.mem_union_right _ (mem_copy c))
theorem reached_bar (K : GSem nD τ sig → ℕ) (c : Dev nD) : records G K ⊢ reached ER (barCell c) 0 := by
  unfold records
  exact sep_elim_right.trans (bigSep_elim (Φ := fun g => (reached ER g 0 : sProp 𝕄)) (mem_bar c))

/-! ## The assertions -/

/-- Round 0 of the device's own completion cells is reached. -/
def Reach (c : Dev nD) : sProp 𝕄 :=
  iprop((reached ER (sendCell c 0) 0 ∗ reached ER (sendCell c 1) 0 ∗ reached ER (sendCell c 2) 0)
    ∗ (reached ER (recvCell c 0) 0 ∗ reached ER (recvCell c 1) 0 ∗ reached ER (recvCell c 2) 0) ∗ reached ER (copyCell c) 0)
instance (c : Dev nD) : BI.Persistent (Reach c : sProp 𝕄) := by unfold Reach; infer_instance
theorem reach_send (c : Dev nD) (r : Fin 3) : (Reach c : sProp 𝕄) ⊢ reached ER (sendCell c r) 0 := by
  unfold Reach; iintro ⟨⟨H0, H1, H2⟩, -⟩
  fin_cases r
  · iexact H0
  · iexact H1
  · iexact H2
theorem reach_recv (c : Dev nD) (r : Fin 3) : (Reach c : sProp 𝕄) ⊢ reached ER (recvCell c r) 0 := by
  unfold Reach; iintro ⟨-, ⟨H0, H1, H2⟩, -⟩
  fin_cases r
  · iexact H0
  · iexact H1
  · iexact H2
theorem reach_copy (c : Dev nD) : (Reach c : sProp 𝕄) ⊢ reached ER (copyCell c) 0 := by
  unfold Reach; iintro ⟨-, -, H⟩; iexact H

def Pers (K : GSem nD τ sig → ℕ) (c : Dev nD) : sProp 𝕄 := iprop(records G K ∗ Reach c ∗ levAts L lv)
instance (K : GSem nD τ sig → ℕ) (c : Dev nD) : BI.Persistent (Pers G K c) := by unfold Pers; infer_instance

/-- What the barrier grants a device for its `r`-th chunk: the rows it lands in, and that the receipt's round is reached. -/
def Grant (c : Dev nD) (r : Fin 3) : sProp 𝕄 :=
  iprop((∃ f, outPt (tgt c r) (outRows c.val) f) ∗ reached ER (recvCell (tgt c r) r) 0)
/-- What a device needs of its own for its `r`-th copy. -/
def Duty (c : Dev nD) (r : Fin 3) : sProp 𝕄 :=
  iprop(dutyTok ER (sendCell c r) 0 0 ∗ dutyTok ER (recvCell (tgt c r) r) 0 0 ∗ atPos ER (sendCell c r) 0 ∅ 0)
/-- The `r`-th slot of the send buffer, and the copy out of it: nothing stored; half 0 stored; under way; done and half 0 reused. -/
def SendSt (c : Dev nD) (r : Fin 3) : ℕ → sProp 𝕄
  | 0 => iprop(Grant c r ∗ Duty c r ∗ (∃ f, sbPt c (sendHalf r.val 0) f) ∗ ∃ f, sbPt c (sendHalf r.val 1) f)
  | 1 => iprop(Grant c r ∗ Duty c r ∗ sbPt c (sendHalf r.val 0) (sendBuf (G c r.val)) ∗ ∃ f, sbPt c (sendHalf r.val 1) f)
  | 2 => iprop(cred (tallyAt (sendCell c r) () N) ∗ atPos ER (sendCell c r) 0 ∅ 0)
  | _ => iprop(atPos ER (sendCell c r) 1 ∅ 0 ∗ sbPt c (sendHalf r.val 0) (sendBuf (G c 3)) ∗ ∃ f, sbPt c (sendHalf r.val 1) f)
theorem sendSt_two (c : Dev nD) (r : Fin 3) :
    SendSt G c r 2 = iprop(cred (tallyAt (sendCell c r) () N) ∗ atPos ER (sendCell c r) 0 ∅ 0) := rfl
/-- Which of these it is before point `s`. -/
def ph (r s : ℕ) : ℕ := if s ≤ 16 * r + 15 then 0 else if s = 16 * r + 16 then 1 else if r = 0 ∧ 63 < s then 3 else 2
/-- What a device needs of its own for the three receipts and for its local copy. -/
def RecvSt (c : Dev nD) : sProp 𝕄 :=
  iprop((cred (tallyAt (recvCell c 0) () N) ∗ atPos ER (recvCell c 0) 0 ∅ 0) ∗ (cred (tallyAt (recvCell c 1) () N) ∗ atPos ER (recvCell c 1) 0 ∅ 0)
    ∗ (cred (tallyAt (recvCell c 2) () N) ∗ atPos ER (recvCell c 2) 0 ∅ 0) ∗ dutyTok ER (copyCell c) 0 0 ∗ atPos ER (copyCell c) 0 ∅ 0)
/-- The copies, with the device's own rows of its result, before point `s ≥ 1`. -/
def Comm (c : Dev nD) (p0 p1 p2 : ℕ) : sProp 𝕄 :=
  iprop(SendSt G c 0 p0 ∗ SendSt G c 1 p1 ∗ SendSt G c 2 p2 ∗ RecvSt c ∗ ∃ f, outPt c (outRows c.val) f)
/-- The same before the barrier: no grant yet, the whole result still here, the barrier's own cell, tokens and credit. -/
def Start (c : Dev nD) : sProp 𝕄 :=
  iprop((Duty c 0 ∗ Duty c 1 ∗ Duty c 2) ∗ RecvSt c
    ∗ (atPos ER (barCell c) 0 ∅ 0 ∗ cred (tallyAt (barCell c) () 3))
    ∗ (dutyTok ER (barCell (src c 0)) 0 0 ∗ dutyTok ER (barCell (src c 1)) 0 1 ∗ dutyTok ER (barCell (src c 2)) 0 2)
    ∗ (∃ f, outPt c Finset.univ f) ∗ ∃ f, sbPt c Finset.univ f)
/-- After the last point: every own counter back at zero and the whole result written. -/
def Done (c : Dev nD) : sProp 𝕄 :=
  iprop((semVal (sendCell c 0) 0 ∗ semVal (sendCell c 1) 0 ∗ semVal (sendCell c 2) 0)
    ∗ (semVal (recvCell c 0) 0 ∗ semVal (recvCell c 1) 0 ∗ semVal (recvCell c 2) 0) ∗ semVal (copyCell c) 0
    ∗ outPt c Finset.univ (outF G c) ∗ ∃ f, sbPt c Finset.univ f)

/-- The two halves of the accumulator before point `s`: the one `s` stores into, and the other. -/
def AccSt (s : ℕ) : sProp 𝕄 :=
  iprop((∃ f, ⌜3 ≤ s → f = accBuf (accV xs ws c (s - 2))⌝ ∗ accPt c (accHalf (half s)) f)
    ∗ ∃ f, ⌜2 ≤ s → f = accBuf (accV xs ws c (s - 1))⌝ ∗ accPt c (accHalf (1 - half s)) f)
/-- The two slots of the copies of `x` and of `w_mat` before point `s`: the one `s` stores into, and the one it reads. -/
def XbSt (s : ℕ) : sProp 𝕄 :=
  iprop((∃ f, xbPt c (slot2 (s % 2)) f) ∗ ∃ f, ⌜1 ≤ s → f = slotBuf (xv xs c (s - 1))⌝ ∗ xbPt c (slot2 ((s + 1) % 2)) f)
def WbSt (s : ℕ) : sProp 𝕄 :=
  iprop((∃ f, wbPt c (slot2 (s % 2)) f) ∗ ∃ f, ⌜1 ≤ s → f = slotBuf (wv ws c (s - 1))⌝ ∗ wbPt c (slot2 ((s + 1) % 2)) f)
/-- The prefetched table. -/
def TabSt (c : Dev nD) : sProp 𝕄 := (tabM.view.loc (c : Thread nD τ)) ↦{fullShare} (tab c)

end Cert.KernelIdeal.Proof
-- ==== Proof.Steps.lean ====
/-
  ONE OPERATION OF THE BODY AT A TIME: each load and store of a region at the contents meant for it, the reads of the table, the
  barrier, the copies to the other devices, the local copy and the waits.
-/
module

public import proofs.«01_k».proof.Proof.State

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ
abbrev PT (F : FTy → Type) (α : Type) : Type 1 :=
  Prog (TpuEff nD τ sig (Elt F) Λ₀ .tc) α

abbrev WP {α : Type} (c : Dev nD) (p : PT F α) (Q : α → sProp 𝕄) : sProp 𝕄 :=
  wp frame (wpE (defs₀ (F := F)) 𝒱₀ (c : Thread nD τ) none) Set.univ p Q

variable {α : Type} (c : Dev nD)

/-! ## Loads and stores -/

theorem acc_load {off : Fin 2 → ℕ} {h : ℕ} (e : off = ![1024 * h, 0]) (inb : ∀ a, off a + S1024x1024.size a ≤ S2048x1024.size a)
    {hl} {k : Vec F S1024x1024 .f32 → PT F α} {Q : α → sProp 𝕄} {f : S2048x1024.Idx → Elt F .f32} :
    accPt c (accHalf h) f ⊢ iprop((accPt c (accHalf h) f -∗
        WP c (k ((accM.access (Rect.unit (s := S2048x1024) off S1024x1024.size inb)).read (Elt F) f)) Q)
      -∗ WP c (.op (.load accM (Rect.unit (s := S2048x1024) off S1024x1024.size inb).toLoadRect hl) k) Q) :=
  wp_load_rect 𝒱₀ (c : Thread nD τ) none Set.univ (m := accM) (r := Rect.unit (s := S2048x1024) off S1024x1024.size inb)
    (by rw [← set_accHalf e inb]; exact (View.set_slice_whole _ _).le)

theorem acc_store {off : Fin 2 → ℕ} {h : ℕ} (e : off = ![1024 * h, 0]) (inb : ∀ a, off a + S1024x1024.size a ≤ S2048x1024.size a)
    {hx hm} {k : PUnit → PT F α} {Q : α → sProp 𝕄} {f : S2048x1024.Idx → Elt F .f32} {w : Vec F S1024x1024 .f32} :
    accPt c (accHalf h) f ⊢ iprop((accPt c (accHalf h) (accBuf w) -∗ WP c (k ⟨⟩) Q)
      -∗ WP c (.op (.store accM (Rect.unit (s := S2048x1024) off S1024x1024.size inb) w Finset.univ hx hm) k) Q) := by
  have hs : (accM.access (Rect.unit (s := S2048x1024) off S1024x1024.size inb)).setOn Finset.univ = accHalf h := by
    rw [View.setOn_univ, ← set_accHalf e inb]; exact View.set_slice_whole _ _
  have hc : accPt c (accHalf h) ((accM.access (Rect.unit (s := S2048x1024) off S1024x1024.size inb)).write (Elt F) f w Finset.univ)
      = accPt c (accHalf h) (accBuf w) := pointsTo_congr (acc_write (Elt F) e inb f w)
  rw [← hc]
  exact wp_store 𝒱₀ (c : Thread nD τ) none Set.univ (m := accM) (r := Rect.unit (s := S2048x1024) off S1024x1024.size inb) hs.le

theorem xb_load {off : Fin 3 → ℕ} {p : ℕ} (e : off = ![p, 0, 0]) (inb : ∀ a, off a + S1x1024x1024.size a ≤ S2x1024x1024.size a)
    {hl} {k : Vec F S1x1024x1024 .bf16 → PT F α} {Q : α → sProp 𝕄} {f : S2x1024x1024.Idx → Elt F .bf16} :
    xbPt c (slot2 p) f ⊢ iprop((xbPt c (slot2 p) f -∗
        WP c (k ((xbM.access (Rect.unit (s := S2x1024x1024) off S1x1024x1024.size inb)).read (Elt F) f)) Q)
      -∗ WP c (.op (.load xbM (Rect.unit (s := S2x1024x1024) off S1x1024x1024.size inb).toLoadRect hl) k) Q) :=
  wp_load_rect 𝒱₀ (c : Thread nD τ) none Set.univ (m := xbM) (r := Rect.unit (s := S2x1024x1024) off S1x1024x1024.size inb)
    (by rw [← set_slot2 e inb]; exact (View.set_slice_whole _ _).le)

theorem xb_store {off : Fin 3 → ℕ} {p : ℕ} (e : off = ![p, 0, 0]) (inb : ∀ a, off a + S1x1024x1024.size a ≤ S2x1024x1024.size a)
    {hx hm} {k : PUnit → PT F α} {Q : α → sProp 𝕄} {f : S2x1024x1024.Idx → Elt F .bf16} {w : Vec F S1x1024x1024 .bf16} :
    xbPt c (slot2 p) f ⊢ iprop((xbPt c (slot2 p) (slotBuf w) -∗ WP c (k ⟨⟩) Q)
      -∗ WP c (.op (.store xbM (Rect.unit (s := S2x1024x1024) off S1x1024x1024.size inb) w Finset.univ hx hm) k) Q) := by
  have hs : (xbM.access (Rect.unit (s := S2x1024x1024) off S1x1024x1024.size inb)).setOn Finset.univ = slot2 p := by
    rw [View.setOn_univ, ← set_slot2 e inb]; exact View.set_slice_whole _ _
  have hc : xbPt c (slot2 p) ((xbM.access (Rect.unit (s := S2x1024x1024) off S1x1024x1024.size inb)).write (Elt F) f w Finset.univ)
      = xbPt c (slot2 p) (slotBuf w) := pointsTo_congr (xb_write (Elt F) e inb f w)
  rw [← hc]
  exact wp_store 𝒱₀ (c : Thread nD τ) none Set.univ (m := xbM) (r := Rect.unit (s := S2x1024x1024) off S1x1024x1024.size inb) hs.le

theorem wb_load {off : Fin 3 → ℕ} {p : ℕ} (e : off = ![p, 0, 0]) (inb : ∀ a, off a + S1x1024x1024.size a ≤ S2x1024x1024.size a)
    {hl} {k : Vec F S1x1024x1024 .bf16 → PT F α} {Q : α → sProp 𝕄} {f : S2x1024x1024.Idx → Elt F .bf16} :
    wbPt c (slot2 p) f ⊢ iprop((wbPt c (slot2 p) f -∗
        WP c (k ((wbM.access (Rect.unit (s := S2x1024x1024) off S1x1024x1024.size inb)).read (Elt F) f)) Q)
      -∗ WP c (.op (.load wbM (Rect.unit (s := S2x1024x1024) off S1x1024x1024.size inb).toLoadRect hl) k) Q) :=
  wp_load_rect 𝒱₀ (c : Thread nD τ) none Set.univ (m := wbM) (r := Rect.unit (s := S2x1024x1024) off S1x1024x1024.size inb)
    (by rw [← set_slot2 e inb]; exact (View.set_slice_whole _ _).le)

theorem wb_store {off : Fin 3 → ℕ} {p : ℕ} (e : off = ![p, 0, 0]) (inb : ∀ a, off a + S1x1024x1024.size a ≤ S2x1024x1024.size a)
    {hx hm} {k : PUnit → PT F α} {Q : α → sProp 𝕄} {f : S2x1024x1024.Idx → Elt F .bf16} {w : Vec F S1x1024x1024 .bf16} :
    wbPt c (slot2 p) f ⊢ iprop((wbPt c (slot2 p) (slotBuf w) -∗ WP c (k ⟨⟩) Q)
      -∗ WP c (.op (.store wbM (Rect.unit (s := S2x1024x1024) off S1x1024x1024.size inb) w Finset.univ hx hm) k) Q) := by
  have hs : (wbM.access (Rect.unit (s := S2x1024x1024) off S1x1024x1024.size inb)).setOn Finset.univ = slot2 p := by
    rw [View.setOn_univ, ← set_slot2 e inb]; exact View.set_slice_whole _ _
  have hc : wbPt c (slot2 p) ((wbM.access (Rect.unit (s := S2x1024x1024) off S1x1024x1024.size inb)).write (Elt F) f w Finset.univ)
      = wbPt c (slot2 p) (slotBuf w) := pointsTo_congr (wb_write (Elt F) e inb f w)
  rw [← hc]
  exact wp_store 𝒱₀ (c : Thread nD τ) none Set.univ (m := wbM) (r := Rect.unit (s := S2x1024x1024) off S1x1024x1024.size inb) hs.le

theorem send_load {off : Fin 3 → ℕ} {r h : ℕ} (e : off = ![r, 1024 * h, 0]) (inb : ∀ a, off a + S1x1024x1024.size a ≤ S3x2048x1024.size a)
    {hl} {k : Vec F S1x1024x1024 .bf16 → PT F α} {Q : α → sProp 𝕄} {f : S3x2048x1024.Idx → Elt F .bf16} :
    sbPt c (sendHalf r h) f ⊢ iprop((sbPt c (sendHalf r h) f -∗
        WP c (k ((sbM.access (Rect.unit (s := S3x2048x1024) off S1x1024x1024.size inb)).read (Elt F) f)) Q)
      -∗ WP c (.op (.load sbM (Rect.unit (s := S3x2048x1024) off S1x1024x1024.size inb).toLoadRect hl) k) Q) :=
  wp_load_rect 𝒱₀ (c : Thread nD τ) none Set.univ (m := sbM) (r := Rect.unit (s := S3x2048x1024) off S1x1024x1024.size inb)
    (by rw [← set_sendHalf e inb]; exact (View.set_slice_whole _ _).le)

theorem send_store {off : Fin 3 → ℕ} {r h : ℕ} (e : off = ![r, 1024 * h, 0]) (inb : ∀ a, off a + S1x1024x1024.size a ≤ S3x2048x1024.size a)
    {hx hm} {k : PUnit → PT F α} {Q : α → sProp 𝕄} {f : S3x2048x1024.Idx → Elt F .bf16} {w : Vec F S1x1024x1024 .bf16} (g : ℕ → S1x1024x1024.Idx → Elt F .bf16) (hg : g h = w) :
    sbPt c (sendHalf r h) f ⊢ iprop((sbPt c (sendHalf r h) (sendBuf g) -∗ WP c (k ⟨⟩) Q)
      -∗ WP c (.op (.store sbM (Rect.unit (s := S3x2048x1024) off S1x1024x1024.size inb) w Finset.univ hx hm) k) Q) := by
  have hs : (sbM.access (Rect.unit (s := S3x2048x1024) off S1x1024x1024.size inb)).setOn Finset.univ = sendHalf r h := by
    rw [View.setOn_univ, ← set_sendHalf e inb]; exact View.set_slice_whole _ _
  have hc : sbPt c (sendHalf r h) ((sbM.access (Rect.unit (s := S3x2048x1024) off S1x1024x1024.size inb)).write (Elt F) f w Finset.univ)
      = sbPt c (sendHalf r h) (sendBuf g) := pointsTo_congr (send_write (Elt F) e inb f w g hg)
  rw [← hc]
  exact wp_store 𝒱₀ (c : Thread nD τ) none Set.univ (m := sbM) (r := Rect.unit (s := S3x2048x1024) off S1x1024x1024.size inb) hs.le

/-- A word of the table: entry `r` is the device `r + 1` places on. -/
def tabWord (c : Dev nD) (r : Fin 3) : Vec F S1 .i32 := fun _ => BitVec.ofNat 32 (tgt c r).val

theorem tab_load (r : Fin 3) (inb : ∀ a, (![r.val] : Fin 1 → ℕ) a + S1.size a ≤ S4.size a)
    {hl} {k : Vec F S1 .i32 → PT F α} {Q : α → sProp 𝕄} :
    TabSt c ⊢ iprop((TabSt c -∗ WP c (k (tabWord c r)) Q)
      -∗ WP c (.op (.load tabM (Rect.unit (s := S4) ![r.val] S1.size inb).toLoadRect hl) k) Q) := by
  have e : ((tabM.access (Rect.unit (s := S4) ![r.val] S1.size inb)).read (Elt F) (tab c)) = tabWord c r := by
    funext x
    have hx : (x 0).val = 0 := by have : (x 0).val < 1 := (x 0).isLt; omega
    show BitVec.ofNat 32 ((c.val + (r.val + 1 * (x 0).val) + 1) % 4) = _
    rw [hx]
    rfl
  rw [← e]
  exact wp_load_rect 𝒱₀ (c : Thread nD τ) none Set.univ (m := tabM) (r := Rect.unit (s := S4) ![r.val] S1.size inb) (Finset.subset_univ _)

/-- A load of the whole of a staged block. -/
theorem stage_load (m : Memref sig (c : Thread nD τ).2.kind .vmem S1024x1024 .bf16) (inb : ∀ a, (![0, 0] : Fin 2 → ℕ) a + S1024x1024.size a ≤ S1024x1024.size a)
    {hl} {k : Vec F S1024x1024 .bf16 → PT F α} {Q : α → sProp 𝕄} {X : Vec F S1024x1024 .bf16} :
    owns (c : Thread nD τ) m fullShare X ⊢ iprop((owns (c : Thread nD τ) m fullShare X -∗ WP c (k X) Q)
      -∗ WP c (.op (.load m (Rect.unit (s := S1024x1024) ![0, 0] S1024x1024.size inb).toLoadRect hl) k) Q) := by
  unfold owns
  iintro ⟨%f, %hf, Hf⟩ Hk
  have e : (m.access (Rect.unit (s := S1024x1024) ![0, 0] S1024x1024.size inb)).read (Elt F) f = X := by
    rw [← hf]
    funext x
    show m.view.read (Elt F) f ((Rect.unit (s := S1024x1024) ![0, 0] S1024x1024.size inb).emb x) = m.view.read (Elt F) f x
    congr 1
    funext a; apply Fin.ext; fin_cases a
    · show 0 + 1 * (x 0).val = (x 0).val; omega
    · show 0 + 1 * (x 1).val = (x 1).val; omega
  iapply (wp_load_rect 𝒱₀ (c : Thread nD τ) none Set.univ (m := m) (r := Rect.unit (s := S1024x1024) ![0, 0] S1024x1024.size inb)
    (View.set_slice_subset _ _)) $$ Hf
  iintro Hf
  rw [e]
  iapply Hk
  iexists f
  isplitr
  · ipureintro; exact hf
  iexact Hf

/-! ## The barrier -/

variable (G : Blocks F) (K : GSem nD τ sig → ℕ)

/-- A unit to the device `j + 1` places back: it grants that device this device's rows for its chunk `j`. -/
theorem sig_step (j : Fin 3) {n : Dev nD} (hn : n = src c j) {w : Int} (hw : w = ((1 : ℕ) : Int)) {O O' : CellTallies nD τ sig Unit}
    (hO : O' = O + tallyAt (barCell (src c j)) () 1) {W : Waits sig Unit} {k : PUnit → PT F α} {Q : α → sProp 𝕄} :
    iprop(Pers G K c ∗ owes (c : Thread nD τ) O' W ∗ dutyTok ER (barCell (src c j)) 0 j ∗ ∃ f, outPt c (outRows (src c j).val) f)
      ⊢ iprop((owes (c : Thread nD τ) O W -∗ WP c (k ⟨⟩) Q) -∗ WP c (.op (.semSignal (n : Thread nD τ) barS w) k) Q) := by
  subst hn; subst hw
  unfold Pers
  iintro ⟨⟨#Hr, #Hre, -⟩, HO, Ht, Hp⟩ Hk
  iapply (Rounds.wp_signal 𝒱₀ ER (Rd G) (c : Thread nD τ) none (dst := (src c j : Thread nD τ)) (sem := barS) (r := 0) (d := j) (κ := K (barCell (src c j)))
    (by rw [duties_bar]; exact Finset.mem_univ _) rfl () O hO) $$ [HO Ht Hp]
  · isplitr; · iapply (inv_bar G K (src c j)); iexact Hr
    isplitl [HO]; · iexact HO
    isplitl [Ht]; · iexact Ht
    isplitl [Hp]
    · rw [payload_bar]; unfold barPay; rw [tgt_src]
      isplitl [Hp]; · iexact Hp
      iapply (reach_recv c j); iexact Hre
    · iapply (reached_bar G K (src c j)); iexact Hr
  iexact Hk

/-- The wait for the three units: the three grants, and the barrier's counter back at zero. -/
theorem bar_step {O : CellTallies nD τ sig Unit} (hm : (levAts L lv : sProp 𝕄) ⊢ MayWait (c : Thread nD τ) (.reg barS) () O)
    {w : Int} (hw : w = ((3 : ℕ) : Int)) {W : Waits sig Unit} {k : PUnit → PT F α} {Q : α → sProp 𝕄} :
    iprop(Pers G K c ∗ owes (c : Thread nD τ) O W ∗ cred (tallyAt (barCell c) () 3) ∗ atPos ER (barCell c) 0 ∅ 0)
      ⊢ iprop((((∃ W, owes (c : Thread nD τ) O W) ∗ atPos ER (barCell c) 1 ∅ 0 ∗ Grant c 0 ∗ Grant c 1 ∗ Grant c 2) -∗ WP c (k ⟨⟩) Q)
        -∗ WP c (.op (.semWait barS w) k) Q) := by
  subst hw
  unfold Pers
  iintro ⟨⟨#Hr, #Hre, #Hl⟩, HO, Hc, Ha⟩ Hk
  iapply (Rounds.wp_wait_rest_token 𝒱₀ ER (Rd G) (c : Thread nD τ) none (κ := K (barCell c))
    (wpE_semWait_eq 𝒱₀ (c : Thread nD τ) none Set.univ) (Set.mem_univ _) () (O := O) (W := W) (R := 0) (m := 0) (T := ∅)
    ((Nat.zero_add 3).trans (expect_bar G c).symm)) $$ [HO Hc Ha]
  · isplitr; · iapply (inv_bar G K c); iexact Hr
    isplitl [Hc]; · iexact Hc
    isplitl [HO]; · iexact HO
    isplitr; · iapply hm; iexact Hl
    iexact Ha
  iintro ⟨HO, Ha, -, Hb⟩
  ihave Hb := (Entails.of_eq (rest_bar G c)) $$ Hb
  iapply Hk
  isplitl [HO]; · iexists (insert (SemLoc.reg barS, ()) W); iexact HO
  isplitl [Ha]; · iexact Ha
  iexact Hb

/-! ## The copies -/

/-- Chunk `r` leaves for the device `r + 1` places on. -/
theorem send_step (r : Fin 3) {n : Dev nD} (hn : n = tgt c r) {off : Fin 2 → ℕ} (e : off = ![2048 * c.val, 0]) (inb inb')
    {O O' : CellTallies nD τ sig Unit} (hO : O' = O + tallyAt (recvCell (tgt c r) r) () N) {W : Waits sig Unit} {h1 h2 h3 h4}
    {k : PUnit → PT F α} {Q : α → sProp 𝕄} :
    iprop(Pers G K c ∗ owes (c : Thread nD τ) O' W ∗ Grant c r ∗ Duty c r ∗ sbPt c (sendSlot r.val) (sendBuf (G c r.val)))
      ⊢ iprop(((owes (c : Thread nD τ) O W ∗ SendSt G c r 2) -∗ WP c (k ⟨⟩) Q)
        -∗ WP c (.op (.enqueueDma (slotM r.val inb') (.remote (n : Thread nD τ) (rowsM off inb) (.dma (sendS r)) h1) (.dma (recvS r)) h2 h3 h4) k) Q) := by
  subst hn
  unfold Pers Grant Duty
  iintro ⟨⟨#Hr, #Hre, -⟩, HO, ⟨⟨%fd, Hd⟩, #Hrr⟩, ⟨Ht, Ht', Ha⟩, Hs⟩ Hk
  iapply (Rounds.wp_send_pointsTo 𝒱₀ ER (Rd G) (c : Thread nD τ) none (c' := (tgt c r : Thread nD τ)) (src := slotM r.val inb') (dst := rowsM off inb)
      (sS := .dma (sendS r)) (sem := .dma (recvS r)) (q := fullShare) (fs := sendBuf (G c r.val)) (κ₁ := K (sendCell c r)) (κ₂ := K (recvCell (tgt c r) r))
      (r₁ := 0) (r₂ := 0) (d₁ := 0) (d₂ := 0) (fd := fd) (hsc := h1) (hsrc := h2) (hdst := h3) (hsem := h4)
      (by rw [duties_send]; exact Finset.mem_singleton_self _) (by rw [duties_recv]; exact Finset.mem_singleton_self _)
      () () N rfl rfl rfl O hO (W := W)
      (by rw [payload_send, slotM_set]; exact BI.Entails.refl _)
      (by
        rw [payload_recv, rowsM_set e]
        unfold recvPay outF
        rw [src_tgt]
        exact Entails.of_eq (pointsTo_congr (rowsM_write (Elt F) e inb r.val inb' fd (G c r.val) (outG G (tgt c r)) (outG_tgt G c r)))))
    $$ [HO Hd Ht Ht' Hs]
  · isplitr; · iapply (inv_send G K c r); iexact Hr
    isplitr; · iapply (inv_recv G K (tgt c r) r); iexact Hr
    isplitl [Hs]; · rw [slotM_set]; iexact Hs
    isplitl [Hd]; · rw [rowsM_set e]; iexact Hd
    isplitl [HO]; · iexact HO
    isplitl [Ht]; · iexact Ht
    isplitr; · iapply (reach_send c r); iexact Hre
    isplitl [Ht']; · iexact Ht'
    iexact Hrr
  iintro ⟨Hc, HO⟩
  iapply Hk
  isplitl [HO]; · iexact HO
  rw [sendSt_two]
  isplitl [Hc]; · iexact Hc
  iexact Ha

/-- A wait for one of the completion cells' only round, nothing owed. -/
theorem wait_step (q : DmaSem sig) (hq : 4 ≤ q.val) (hmem : (((c : Thread nD τ), SemLoc.dma q) : GSem nD τ sig) ∈ scCells)
    {sp sp' : Space} {s s' : Shape} {e e' : EltTy} {m₁ : Memref sig (c : Thread nD τ).2.kind sp s e} {m₂ : Memref sig (c : Thread nD τ).2.kind sp' s' e'} (hN : m₂.view.dmaCredit = N) {W : Waits sig Unit}
    {k : PUnit → PT F α} {Q : α → sProp 𝕄} {h1 h2} :
    iprop(Pers G K c ∗ owes (c : Thread nD τ) (0 : CellTallies nD τ sig Unit) W ∗ cred (tallyAt ((c : Thread nD τ), SemLoc.dma q) () N) ∗ atPos ER ((c : Thread nD τ), SemLoc.dma q) 0 ∅ 0)
      ⊢ iprop((((∃ W, owes (c : Thread nD τ) (0 : CellTallies nD τ sig Unit) W) ∗ atPos ER ((c : Thread nD τ), SemLoc.dma q) 1 ∅ 0 ∗ dmaPay G c q.val) -∗ WP c (k ⟨⟩) Q)
        -∗ WP c (.op (.waitDma2 q m₁ m₂ h1 h2) k) Q) := by
  unfold Pers
  iintro ⟨⟨#Hr, #Hre, -⟩, HO, Hc, Ha⟩ Hk
  iapply (Rounds.wp_wait_rest_token 𝒱₀ ER (Rd G) (c : Thread nD τ) none (κ := K ((c : Thread nD τ), SemLoc.dma q))
    (wpE_waitDma2_eq 𝒱₀ (c : Thread nD τ) none Set.univ) (Set.mem_univ _) () (O := 0) (W := W) (R := 0) (m := 0) (T := ∅)
    ((Nat.zero_add _).trans (hN.trans (expect_dma G c q hq).symm))) $$ [HO Hc Ha]
  · isplitr; · iapply (records_inv G (Finset.mem_union_right _ hmem)); iexact Hr
    isplitl [Hc]; · rw [hN]; iexact Hc
    isplitl [HO]; · iexact HO
    isplitr; · rw [MayWait_zero]; iempintro
    iexact Ha
  iintro ⟨HO, Ha, -, Hb⟩
  ihave Hb := (Entails.of_eq (rest_dma G c q hq)) $$ Hb
  iapply Hk
  isplitl [HO]; · iexists (insert (SemLoc.dma q, ()) W); iexact HO
  isplitl [Ha]; · iexact Ha
  iexact Hb

/-- The device's own chunk goes to its own rows. -/
theorem copy_step {off : Fin 2 → ℕ} (e : off = ![2048 * c.val, 0]) (inb inb') {h1 h2 h3} {k : PUnit → PT F α} {Q : α → sProp 𝕄} :
    iprop(Pers G K c ∗ sbPt c (sendSlot 0) (sendBuf (G c 3)) ∗ (∃ f, outPt c (outRows c.val) f) ∗ dutyTok ER (copyCell c) 0 0)
      ⊢ iprop((cred (tallyAt (copyCell c) () N) -∗ WP c (k ⟨⟩) Q)
        -∗ WP c (.op (.enqueueDma (slotM 0 inb') (.here (rowsM off inb)) (.dma copyS) h1 h2 h3) k) Q) := by
  unfold Pers
  iintro ⟨⟨#Hr, #Hre, -⟩, Hs, ⟨%fd, Hd⟩, Ht⟩ Hk
  iapply (Rounds.wp_copy_pointsTo 𝒱₀ ER (Rd G) (c : Thread nD τ) none (src := slotM 0 inb') (dst := rowsM off inb) (sem := .dma copyS) (q := fullShare)
    (fs := sendBuf (G c 3)) (fd := fd) (r := 0) (d := 0) (κ := K (copyCell c)) (hsrc := h1) (hdst := h2) (hsem := h3)
    (by rw [duties_copy]; exact Finset.mem_singleton_self _) () N rfl rfl
    (by
      rw [payload_copy, rowsM_set e, slotM_set]
      unfold copyPay outF
      exact BIClass.sep_mono (Entails.of_eq (pointsTo_congr (rowsM_write (Elt F) e inb 0 inb' fd (G c 3) (outG G c) (outG_self G c)))) (BI.Entails.refl _)))
    $$ [Hs Hd Ht]
  · isplitr; · iapply (inv_copy G K c); iexact Hr
    isplitl [Hs]; · rw [slotM_set]; iexact Hs
    isplitl [Hd]; · rw [rowsM_set e]; iexact Hd
    isplitl [Ht]; · iexact Ht
    iapply (reach_copy c); iexact Hre
  iexact Hk

/-- A completion cell past its only round, closed: its counter at zero. -/
theorem close_sc (q : DmaSem sig) (hmem : (((c : Thread nD τ), SemLoc.dma q) : GSem nD τ sig) ∈ scCells) :
    iprop(Pers G K c ∗ atPos ER ((c : Thread nD τ), SemLoc.dma q) 1 ∅ 0) ⊢ (|={Set.univ}=> semVal ((c : Thread nD τ), SemLoc.dma q) 0 : sProp 𝕄) := by
  unfold Pers
  iintro ⟨⟨#Hr, -, -⟩, Ha⟩
  iapply (Rounds.cell_close ER (Rd G) (κ := K ((c : Thread nD τ), SemLoc.dma q)) (Set.mem_univ _) (fun h => h) (R := 0 + 1) (duties_later G _))
  isplitr; · iapply (records_inv G (Finset.mem_union_right _ hmem)); iexact Hr
  iexact Ha

end Cert.KernelIdeal.Proof
-- ==== Proof.Cuts.lean ====
/-
  SPLITTING AND JOINING: the result buffer by the blocks of rows of its four senders, the send buffer by slots and halves, the
  accumulator and the two copies by their two regions; and the rule by which a conditional of the body is passed.
-/
module

public import proofs.«01_k».proof.Proof.Steps

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (c : Dev nD)

/-! ## Buffers in parts -/

theorem four : ∀ c : Dev nD, (Finset.univ : Finset (Dev nD)) = [src c 0, src c 1, src c 2, c].toFinset ∧ [src c 0, src c 1, src c 2, c].Nodup := by
  decide
theorem out_parts (f : S8192x1024.Idx → Elt F .bf16) :
    (outPt c Finset.univ f : sProp 𝕄) = iprop(outPt c (outRows (src c 0).val) f ∗ outPt c (outRows (src c 1).val) f
      ∗ outPt c (outRows (src c 2).val) f ∗ outPt c (outRows c.val) f) := by
  have h := pointsTo_biUnion (Ix := Unit) (Val := Elt F) (Name := ℕ) (U := UU) (Lvl := ℕ) (ℓ := outM.view.loc (c : Thread nD τ)) (q := fullShare) (f := f)
    Finset.univ (fun k : Dev nD => outRows k.val)
    (fun a _ b _ hab => outRows_disj fun h => hab (Fin.ext h))
  rw [outRows_union] at h
  exact h.trans (bigSep_univ_eq_bigSepL [src c 0, src c 1, src c 2, c] (four c).1 (four c).2 _)

theorem xb_split (f : S2x1024x1024.Idx → Elt F .bf16) : xbPt c Finset.univ f ⊢ iprop(xbPt c (slot2 0) f ∗ xbPt c (slot2 1) f) := by
  have h := (pointsTo_union (Ix := Unit) (Val := Elt F) (Name := ℕ) (U := UU) (Lvl := ℕ) (ℓ := xbM.view.loc (c : Thread nD τ)) (q := fullShare) (f := f) slot2_disj).1
  rw [slot2_union] at h; exact h
theorem wb_split (f : S2x1024x1024.Idx → Elt F .bf16) : wbPt c Finset.univ f ⊢ iprop(wbPt c (slot2 0) f ∗ wbPt c (slot2 1) f) := by
  have h := (pointsTo_union (Ix := Unit) (Val := Elt F) (Name := ℕ) (U := UU) (Lvl := ℕ) (ℓ := wbM.view.loc (c : Thread nD τ)) (q := fullShare) (f := f) slot2_disj).1
  rw [slot2_union] at h; exact h
theorem acc_split (f : S2048x1024.Idx → Elt F .f32) : accPt c Finset.univ f ⊢ iprop(accPt c (accHalf 0) f ∗ accPt c (accHalf 1) f) := by
  have h := (pointsTo_union (Ix := Unit) (Val := Elt F) (Name := ℕ) (U := UU) (Lvl := ℕ) (ℓ := accM.view.loc (c : Thread nD τ)) (q := fullShare) (f := f) accHalf_disj).1
  rw [accHalf_union] at h; exact h
theorem sb_halves (r : ℕ) (f : S3x2048x1024.Idx → Elt F .bf16) :
    sbPt c (sendSlot r) f ⊢ iprop(sbPt c (sendHalf r 0) f ∗ sbPt c (sendHalf r 1) f) := by
  have h := (pointsTo_union (Ix := Unit) (Val := Elt F) (Name := ℕ) (U := UU) (Lvl := ℕ) (ℓ := sbM.view.loc (c : Thread nD τ)) (q := fullShare) (f := f) (sendHalf_disj r)).1
  rw [sendHalf_union] at h; exact h
theorem sb_slot (r : ℕ) (f : S3x2048x1024.Idx → Elt F .bf16) :
    iprop(sbPt c (sendHalf r 0) f ∗ sbPt c (sendHalf r 1) f) ⊢ sbPt c (sendSlot r) f := by
  have h := (pointsTo_union (Ix := Unit) (Val := Elt F) (Name := ℕ) (U := UU) (Lvl := ℕ) (ℓ := sbM.view.loc (c : Thread nD τ)) (q := fullShare) (f := f) (sendHalf_disj r)).2
  rw [sendHalf_union] at h; exact h
theorem sb_split (f : S3x2048x1024.Idx → Elt F .bf16) :
    sbPt c Finset.univ f ⊢ iprop(sbPt c (sendSlot 0) f ∗ sbPt c (sendSlot 1) f ∗ sbPt c (sendSlot 2) f) := by
  have h1 := (pointsTo_union (Ix := Unit) (Val := Elt F) (Name := ℕ) (U := UU) (Lvl := ℕ) (ℓ := sbM.view.loc (c : Thread nD τ)) (q := fullShare) (f := f) sendSlot_disj2).1
  have h2 := (pointsTo_union (Ix := Unit) (Val := Elt F) (Name := ℕ) (U := UU) (Lvl := ℕ) (ℓ := sbM.view.loc (c : Thread nD τ)) (q := fullShare) (f := f) sendSlot_disj01).1
  rw [sendSlot_union] at h1
  iintro H
  ihave H := h1 $$ H
  icases H with ⟨H, H2⟩
  ihave H := h2 $$ H
  icases H with ⟨H0, H1⟩
  isplitl [H0]; · iexact H0
  isplitl [H1]; · iexact H1
  iexact H2

theorem xb_join (f g : S2x1024x1024.Idx → Elt F .bf16) : iprop(xbPt c (slot2 0) f ∗ xbPt c (slot2 1) g) ⊢ iprop(∃ f, xbPt c Finset.univ f) := by
  have h := pointsTo_join (Ix := Unit) (Val := Elt F) (Name := ℕ) (U := UU) (Lvl := ℕ) (ℓ := xbM.view.loc (c : Thread nD τ)) (q := fullShare) (f := f) (g := g) slot2_disj
  rw [slot2_union] at h; exact h.trans (exists_intro (Φ := fun f => xbPt c Finset.univ f) _)
theorem wb_join (f g : S2x1024x1024.Idx → Elt F .bf16) : iprop(wbPt c (slot2 0) f ∗ wbPt c (slot2 1) g) ⊢ iprop(∃ f, wbPt c Finset.univ f) := by
  have h := pointsTo_join (Ix := Unit) (Val := Elt F) (Name := ℕ) (U := UU) (Lvl := ℕ) (ℓ := wbM.view.loc (c : Thread nD τ)) (q := fullShare) (f := f) (g := g) slot2_disj
  rw [slot2_union] at h; exact h.trans (exists_intro (Φ := fun f => wbPt c Finset.univ f) _)
theorem acc_join (f g : S2048x1024.Idx → Elt F .f32) : iprop(accPt c (accHalf 0) f ∗ accPt c (accHalf 1) g) ⊢ iprop(∃ f, accPt c Finset.univ f) := by
  have h := pointsTo_join (Ix := Unit) (Val := Elt F) (Name := ℕ) (U := UU) (Lvl := ℕ) (ℓ := accM.view.loc (c : Thread nD τ)) (q := fullShare) (f := f) (g := g) accHalf_disj
  rw [accHalf_union] at h; exact h.trans (exists_intro (Φ := fun f => accPt c Finset.univ f) _)
theorem sb_join (f g h : S3x2048x1024.Idx → Elt F .bf16) :
    iprop(sbPt c (sendSlot 0) f ∗ sbPt c (sendSlot 1) g ∗ sbPt c (sendSlot 2) h) ⊢ iprop(∃ f, sbPt c Finset.univ f) := by
  have h1 := pointsTo_join (Ix := Unit) (Val := Elt F) (Name := ℕ) (U := UU) (Lvl := ℕ) (ℓ := sbM.view.loc (c : Thread nD τ)) (q := fullShare) (f := f) (g := g) sendSlot_disj01
  have h2 := pointsTo_join (Ix := Unit) (Val := Elt F) (Name := ℕ) (U := UU) (Lvl := ℕ) (ℓ := sbM.view.loc (c : Thread nD τ)) (q := fullShare) (f := (sendSlot 1).piecewise g f) (g := h) sendSlot_disj2
  rw [sendSlot_union] at h2
  iintro ⟨H0, H1, H2⟩
  ihave H := h1 $$ [H0 H1]
  · isplitl [H0]; · iexact H0
    iexact H1
  ihave H := h2 $$ [H H2]
  · isplitl [H]; · iexact H
    iexact H2
  iexists _
  iexact H

/-! ## A conditional of the body -/

/-- The end of a program. -/
theorem ret_step {α : Type} {a : α} {Q : α → sProp 𝕄} : Q a ⊢ WP c (.ret a) Q := by
  unfold WP
  rw [wp_ret]
  iintro H
  imodintro
  iexact H

/-- A conditional whose taken branch moves `Rf a` to `Rf b` and whose other branch does nothing. -/
theorem dite_cut {α ι : Type} {C P : Prop} [Decidable C] [Decidable P] (hC : C ↔ P) (Pc A : sProp 𝕄) [BI.Persistent Pc] (Rf : ι → sProp 𝕄) (a b : ι) {kp : PT F α} {t : C → PT F α} {Q : α → sProp 𝕄}
    (ht : ∀ h : C, iprop(Pc ∗ A ∗ Rf a) ⊢ iprop(((A ∗ Rf b) -∗ WP c kp Q) -∗ WP c (t h) Q)) :
    iprop(Pc ∗ A ∗ Rf a) ⊢ iprop(((A ∗ Rf (if P then b else a)) -∗ WP c kp Q) -∗ WP c (dite C t fun _ => kp) Q) := by
  by_cases h : C
  · rw [dif_pos h, if_pos (hC.mp h)]; exact ht h
  · rw [dif_neg h, if_neg fun hp => h (hC.mpr hp)]
    iintro ⟨-, H⟩ Hk
    iapply Hk; iexact H

end Cert.KernelIdeal.Proof
-- ==== Proof.Body1.lean ====
/-
  THE BODY'S FIRST PART: at point 0 the barrier with the three other devices; at every point the copy of the staged block of `x`
  into its slot.
-/
module

public import proofs.«01_k».proof.Proof.Cuts

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (G : Blocks F) (K : GSem nD τ sig → ℕ) (c : Dev nD)

/-- Before the barrier. -/
def Before : sProp 𝕄 := iprop(Start c ∗ ∃ W, owes (c : Thread nD τ) (O₀ c) W)
/-- After it, before point `s`. -/
def After (s : ℕ) : sProp 𝕄 :=
  iprop((∃ W, owes (c : Thread nD τ) (owedR c s) W) ∗ Comm G c (ph 0 s) (ph 1 s) (ph 2 s) ∗ semVal (barCell c) 0)
/-- Whether the barrier is passed or still to come at point `s`. -/
def Gate (s : ℕ) : Bool → sProp 𝕄
  | true => After G c s
  | false => if s = 0 then Before c else After G c s

theorem gate_true (s : ℕ) : (Gate G c s true : sProp 𝕄) = After G c s := rfl
theorem gate_done (s : ℕ) : (Gate G c s (if s = 0 then true else false) : sProp 𝕄) = After G c s := by
  by_cases h : s = 0
  · rw [if_pos h]; rfl
  · rw [if_neg h]; show (if s = 0 then _ else _) = _; rw [if_neg h]

theorem close_bar : iprop(Pers G K c ∗ atPos ER (barCell c) 1 ∅ 0) ⊢ (|={Set.univ}=> semVal (barCell c) 0 : sProp 𝕄) := by
  unfold Pers
  iintro ⟨⟨#Hr, -, -⟩, Ha⟩
  iapply (Rounds.cell_close ER (Rd G) (κ := K (barCell c)) (Set.mem_univ _) (fun h => h) (R := 0 + 1) (duties_later G _))
  isplitr; · iapply (inv_bar G K c); iexact Hr
  iexact Ha

/-- The three slots of the send buffer at the start, with the grants and the tokens. -/
theorem sendSt_start (r : Fin 3) (f : S3x2048x1024.Idx → Elt F .bf16) : iprop(Grant c r ∗ Duty c r ∗ sbPt c (sendSlot r.val) f) ⊢ SendSt G c r 0 := by
  show _ ⊢ iprop(Grant c r ∗ Duty c r ∗ (∃ f, sbPt c (sendHalf r.val 0) f) ∗ ∃ f, sbPt c (sendHalf r.val 1) f)
  iintro ⟨H1, H2, H⟩
  isplitl [H1]; · iexact H1
  isplitl [H2]; · iexact H2
  ihave H := (sb_halves c r.val f) $$ H
  icases H with ⟨Ha, Hb⟩
  isplitl [Ha]
  · iexists f; iexact Ha
  · iexists f; iexact Hb

set_option maxHeartbeats 1000000 in
/-- The barrier. -/
theorem barrier_step (i : grid0.Coords) (m2 m3 : Memref sig .tc .vmem S1024x1024 .bf16) (h1 h2 h3 h4 h5 h6 h7 h8 h9)
    {v2 : BitVec 32} {β : Type} {jp : PT F β} {hc} {Q : β → sProp 𝕄} {hlt} (hs : pt i = 0) :
    iprop(Pers G K c ∗ TabSt c ∗ Gate G c (pt i) false)
      ⊢ iprop(((TabSt c ∗ Gate G c (pt i) true) -∗ WP c jp Q)
        -∗ WP c (k0_part1 (F := F) i tabM h1 m2 h2 m3 h3 outM h4 outM h5 accM h6 xbM h7 wbM h8 sbM h9 cc0_scratch4 cc0_scratch5 cc0_scratch6 c v2 hc >>= fun x =>
            Prog.op (TpuEff.semSignal ((⟨k0_dev3 c, hlt⟩ : Dev nD), Proc.tc) (SemArray.sem x.fst) (1#32).toInt) fun _ =>
              Prog.op (TpuEff.semWait (SemArray.sem x.fst) (3#32).toInt) fun _ => jp) Q) := by
  rw [show Gate (F := F) G c (pt i) false = Before c from if_pos hs]
  simp only [k0_part1_eq_skeleton]; unfold k0_part1_skel
  simp (config := {zeta := false}) only [semSignalWord, semWaitWord, smemLoad, smemLoadElt, Prog.lift, Prog.bind_op, Prog.bind_ret, Prog.pure_eq_ret, Prog.bind_assoc]
  unfold Before Start
  iintro ⟨#HP, HT, ⟨⟨Hd0, Hd1, Hd2⟩, HR, ⟨Hat, Hcr⟩, ⟨Ht0, Ht1, Ht2⟩, ⟨%fo, Ho⟩, ⟨%fs, Hsb⟩⟩, ⟨%W, HO⟩⟩ Hk
  ihave Ho := (Entails.of_eq (out_parts c fo)) $$ Ho
  icases Ho with ⟨Ho0, Ho1, Ho2, Hoc⟩
  iapply (sig_step c G K 2 (Fin.ext (dev1_eq c)) rfl (O := owedR c 0 + tallyAt (barCell (src c 0)) () 1 + tallyAt (barCell (src c 1)) () 1) (O' := O₀ c) rfl) $$ [HO Ht2 Ho2]
  · isplitr; · iexact HP
    isplitl [HO]; · iexact HO
    isplitl [Ht2]; · iexact Ht2
    iexists fo; iexact Ho2
  iintro HO
  iapply (sig_step c G K 1 (Fin.ext (dev2_eq c)) rfl (O := owedR c 0 + tallyAt (barCell (src c 0)) () 1) rfl) $$ [HO Ht1 Ho1]
  · isplitr; · iexact HP
    isplitl [HO]; · iexact HO
    isplitl [Ht1]; · iexact Ht1
    iexists fo; iexact Ho1
  iintro HO
  iapply (sig_step c G K 0 (Fin.ext (dev3_eq c)) rfl (O := owedR c 0) rfl) $$ [HO Ht0 Ho0]
  · isplitr; · iexact HP
    isplitl [HO]; · iexact HO
    isplitl [Ht0]; · iexact Ht0
    iexists fo; iexact Ho0
  iintro HO
  iapply (bar_step c G K (mayWait_bar c 0) rfl) $$ [HO Hcr Hat]
  · isplitr; · iexact HP
    isplitl [HO]; · iexact HO
    isplitl [Hcr]; · iexact Hcr
    iexact Hat
  iintro ⟨HO, Hat, Hg0, Hg1, Hg2⟩
  imod (close_bar G K c) $$ [Hat] with Hv
  · isplitr; · iexact HP
    iexact Hat
  ihave Hsb := (sb_split c fs) $$ Hsb
  icases Hsb with ⟨Hs0, Hs1, Hs2⟩
  iapply Hk
  isplitl [HT]; · iexact HT
  rw [hs]
  rw [gate_true]
  unfold After Comm
  isplitl [HO]; · iexact HO
  isplitr [Hv]
  · isplitl [Hg0 Hd0 Hs0]
    · iapply (sendSt_start G c 0 fs); isplitl [Hg0]; · iexact Hg0
      isplitl [Hd0]; · iexact Hd0
      iexact Hs0
    isplitl [Hg1 Hd1 Hs1]
    · iapply (sendSt_start G c 1 fs); isplitl [Hg1]; · iexact Hg1
      isplitl [Hd1]; · iexact Hd1
      iexact Hs1
    isplitl [Hg2 Hd2 Hs2]
    · iapply (sendSt_start G c 2 fs); isplitl [Hg2]; · iexact Hg2
      isplitl [Hd2]; · iexact Hd2
      iexact Hs2
    isplitl [HR]; · iexact HR
    iexists fo; iexact Hoc
  · iexact Hv

set_option maxHeartbeats 1000000 in
theorem part5_step (i : grid0.Coords) (m2 m3 : Memref sig .tc .vmem S1024x1024 .bf16) (h1 h2 h3 h4 h5 h6 h7 h8 h9)
    {Q} {X W : Vec F S1024x1024 .bf16} :
    iprop(Pers G K c ∗ TabSt c ∗ Gate G c (pt i) false ∗ owns (c : Thread nD τ) m2 fullShare X ∗ owns (c : Thread nD τ) m3 fullShare W ∗ ∃ f, xbPt c (slot2 (pt i % 2)) f)
      ⊢ iprop((∀ v2 v33, (TabSt c ∗ After G c (pt i) ∗ owns (c : Thread nD τ) m2 fullShare X ∗ owns (c : Thread nD τ) m3 fullShare W
            ∗ xbPt c (slot2 (pt i % 2)) (slotBuf (k0_pay4 X))) -∗ Q ⟨BitVec.ofNat 32 (i 0), c, v2, k0_pay5 W, v33⟩)
        -∗ WP c (k0_part5 (F := F) i tabM h1 m2 h2 m3 h3 outM h4 outM h5 accM h6 xbM h7 wbM h8 sbM h9 cc0_scratch4 cc0_scratch5 cc0_scratch6) Q) := by
  simp only [k0_part5_eq_skeleton]; unfold k0_part5_skel
  simp (config := {zeta := false}) only [semSignalWord, semWaitWord, smemLoad, smemLoadElt, Prog.lift, Prog.bind_op, Prog.bind_ret, Prog.pure_eq_ret, Prog.bind_assoc, wp_deviceId]
  simp only [wp_deviceId]
  iintro ⟨#HP, HT, HG, HX, HW, ⟨%fx, Hx⟩⟩ Hk
  iapply (dite_cut c (cond1_iff i) (Pers G K c) (TabSt c) (Gate G c (pt i)) false true ?ht) $$ [HT HG]
  · iintro %h H Hk'
    iapply (barrier_step G K c i m2 m3 h1 h2 h3 h4 h5 h6 h7 h8 h9 ((cond1_iff i).mp h)) $$ H Hk'
  · isplitr; · iexact HP
    isplitl [HT]; · iexact HT
    iexact HG
  iintro ⟨HT, HG⟩
  ihave HG := (Entails.of_eq (gate_done G c (pt i))) $$ HG
  iapply (stage_load c m2 _) $$ HX
  iintro HX
  iapply (xb_load c (off2_eq i) _) $$ Hx
  iintro Hx
  iapply (xb_store c (off2_eq i) _) $$ Hx
  iintro Hx
  iapply (stage_load c m3 _) $$ HW
  iintro HW
  iapply (ret_step c)
  iapply Hk
  isplitl [HT]; · iexact HT
  isplitl [HG]; · iexact HG
  isplitl [HX]; · iexact HX
  isplitl [HW]; · iexact HW
  iexact Hx

end Cert.KernelIdeal.Proof
-- ==== Proof.Body2.lean ====
/-
  THE BODY'S SECOND PART: the copy of the staged block of `w_mat` into its slot, which block of the contraction the point
  accumulates, and the slot of the copy of `x` it reads.
-/
module

public import proofs.«01_k».proof.Proof.Body1

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (c : Dev nD)

/-- The block of the contraction, from the words the program computes it with. -/
abbrev kSel (v59 : BitVec 32) (v70 : BitVec 1) (v71 z : BitVec 32) : BitVec 32 :=
  Scalar.select (Scalar.andi v70 (Scalar.cmpi .ne v71 z)) (Scalar.subi v59 1#32) v59

set_option maxHeartbeats 1000000 in
theorem part6_step (i : grid0.Coords) (m2 m3 : Memref sig .tc .vmem S1024x1024 .bf16) (h1 h2 h3 h4 h5 h6 h7 h8 h9) (v23 : FVec F S1024x1024 .bf16) (v33 : BitVec 32) {Q} :
    iprop(∃ f, wbPt c (slot2 (pt i % 2)) f)
      ⊢ iprop((∀ v48 v59 v70 v71 z, (⌜kSel v59 v70 v71 z = BitVec.ofNat 32 (kblk (pt i))⌝ ∗ wbPt c (slot2 (pt i % 2)) (slotBuf (k0_pay6 v23))) -∗ Q ⟨v48, v59, v70, v71, z⟩)
        -∗ WP c (k0_part6 (F := F) i tabM h1 m2 h2 m3 h3 outM h4 outM h5 accM h6 xbM h7 wbM h8 sbM h9 cc0_scratch4 cc0_scratch5 cc0_scratch6 (BitVec.ofNat 32 (i 0)) v23 v33) Q) := by
  simp only [k0_part6_eq_skeleton]; unfold k0_part6_skel
  simp (config := {zeta := false}) only [Prog.lift, Prog.bind_op, Prog.bind_ret, Prog.pure_eq_ret, Prog.bind_assoc]
  iintro ⟨%fw, Hw⟩ Hk
  iapply (wb_load c (off2_eq i) _) $$ Hw
  iintro Hw
  iapply (wb_store c (off2_eq i) _) $$ Hw
  iintro Hw
  iapply (ret_step c)
  iapply Hk
  isplitr
  · ipureintro
    unfold kSel
    revert i
    refine forall_pt ?_
    decide +kernel
  · iexact Hw

set_option maxHeartbeats 1000000 in
theorem part7_step (i : grid0.Coords) (m2 m3 : Memref sig .tc .vmem S1024x1024 .bf16) (h1 h2 h3 h4 h5 h6 h7 h8 h9) (v48 v59 : BitVec 32) (v70 : BitVec 1) (v71 z : BitVec 32)
    {f : S2x1024x1024.Idx → Elt F .bf16} {Q} :
    xbPt c (slot2 ((pt i + 1) % 2)) f
      ⊢ iprop((∀ v85 v102 v103 v108, xbPt c (slot2 ((pt i + 1) % 2)) f
          -∗ Q ⟨kSel v59 v70 v71 z, v85, k0_pay7 ((xbM.access (Rect.unit (s := S2x1024x1024) (k0_off3 i) S1x1024x1024.size (k0_off3_inb i))).read (Elt F) f), v102, v103, v108⟩)
        -∗ WP c (k0_part7 (F := F) i tabM h1 m2 h2 m3 h3 outM h4 outM h5 accM h6 xbM h7 wbM h8 sbM h9 cc0_scratch4 cc0_scratch5 cc0_scratch6 (BitVec.ofNat 32 (i 0)) v48 v59 v70 v71 z) Q) := by
  simp only [k0_part7_eq_skeleton]; unfold k0_part7_skel
  simp (config := {zeta := false}) only [Prog.lift, Prog.bind_op, Prog.bind_ret, Prog.pure_eq_ret, Prog.bind_assoc]
  iintro Hx Hk
  iapply (xb_load c (off3_eq i) _) $$ Hx
  iintro Hx
  iapply (ret_step c)
  iapply Hk $$ Hx

end Cert.KernelIdeal.Proof
-- ==== Proof.Body3.lean ====
/-
  THE BODY'S THIRD PART: the accumulation, then the conditionals that store a half of a finished chunk and send the chunk.
-/
module

public import proofs.«01_k».proof.Proof.Body2

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (G : Blocks F) (K : GSem nD τ sig → ℕ) (c : Dev nD)

theorem sendSt_zero (r : Fin 3) : SendSt G c r 0 = iprop(Grant c r ∗ Duty c r ∗ (∃ f, sbPt c (sendHalf r.val 0) f) ∗ ∃ f, sbPt c (sendHalf r.val 1) f) := rfl
theorem sendSt_one (r : Fin 3) :
    SendSt G c r 1 = iprop(Grant c r ∗ Duty c r ∗ sbPt c (sendHalf r.val 0) (sendBuf (G c r.val)) ∗ ∃ f, sbPt c (sendHalf r.val 1) f) := rfl

/-- Half 0 of chunk `r` stored. -/
theorem half0_step (r : Fin 3) {offA : Fin 2 → ℕ} {offS : Fin 3 → ℕ} (eA : offA = ![1024 * 0, 0]) (eS : offS = ![r.val, 1024 * 0, 0]) (inbA inbS) {hl hl' hx hm}
    {w : Vec F S1024x1024 .f32} (hG : G c r.val 0 = k0_pay9 w) {α : Type} {kp : PT F α} {Q : α → sProp 𝕄} :
    iprop(accPt c (accHalf 0) (accBuf w) ∗ SendSt G c r 0)
      ⊢ iprop(((accPt c (accHalf 0) (accBuf w) ∗ SendSt G c r 1) -∗ WP c kp Q)
        -∗ WP c (.op (.load accM (Rect.unit (s := S2048x1024) offA S1024x1024.size inbA).toLoadRect hl) fun v : Vec F S1024x1024 .f32 =>
            .op (.load sbM (Rect.unit (s := S3x2048x1024) offS S1x1024x1024.size inbS).toLoadRect hl') fun _ : Vec F S1x1024x1024 .bf16 =>
            .op (.store sbM (Rect.unit (s := S3x2048x1024) offS S1x1024x1024.size inbS) (k0_pay9 v) Finset.univ hx hm) fun _ => kp) Q) := by
  rw [sendSt_zero, sendSt_one]
  iintro ⟨HA, Hg, Hd, ⟨%f0, H0⟩, H1⟩ Hk
  iapply (acc_load c eA inbA) $$ HA
  iintro HA
  rw [acc_read (Elt F) eA inbA w]
  iapply (send_load c eS inbS) $$ H0
  iintro H0
  iapply (send_store c eS inbS (G c r.val) hG) $$ H0
  iintro H0
  iapply Hk
  isplitl [HA]; · iexact HA
  isplitl [Hg]; · iexact Hg
  isplitl [Hd]; · iexact Hd
  isplitl [H0]; · iexact H0
  iexact H1

/-- Half 1 of chunk `r` stored: the whole slot ready. -/
theorem half1_step (r : Fin 3) {offA : Fin 2 → ℕ} {offS : Fin 3 → ℕ} (eA : offA = ![1024 * 1, 0]) (eS : offS = ![r.val, 1024 * 1, 0]) (inbA inbS) {hl hl' hx hm}
    {w : Vec F S1024x1024 .f32} (hG : G c r.val 1 = k0_pay9 w) {α : Type} {k : PUnit → PT F α} {Q : α → sProp 𝕄} :
    iprop(accPt c (accHalf 1) (accBuf w) ∗ SendSt G c r 1)
      ⊢ iprop(((accPt c (accHalf 1) (accBuf w) ∗ Grant c r ∗ Duty c r ∗ sbPt c (sendSlot r.val) (sendBuf (G c r.val))) -∗ WP c (k ⟨⟩) Q)
        -∗ WP c (.op (.load accM (Rect.unit (s := S2048x1024) offA S1024x1024.size inbA).toLoadRect hl) fun v : Vec F S1024x1024 .f32 =>
            .op (.load sbM (Rect.unit (s := S3x2048x1024) offS S1x1024x1024.size inbS).toLoadRect hl') fun _ : Vec F S1x1024x1024 .bf16 =>
            .op (.store sbM (Rect.unit (s := S3x2048x1024) offS S1x1024x1024.size inbS) (k0_pay9 v) Finset.univ hx hm) k) Q) := by
  rw [sendSt_one]
  iintro ⟨HA, Hg, Hd, H0, ⟨%f1, H1⟩⟩ Hk
  iapply (acc_load c eA inbA) $$ HA
  iintro HA
  rw [acc_read (Elt F) eA inbA w]
  iapply (send_load c eS inbS) $$ H1
  iintro H1
  iapply (send_store c eS inbS (G c r.val) hG) $$ H1
  iintro H1
  iapply Hk
  isplitl [HA]; · iexact HA
  isplitl [Hg]; · iexact Hg
  isplitl [Hd]; · iexact Hd
  iapply (sb_slot c r.val (sendBuf (G c r.val)))
  isplitl [H0]; · iexact H0
  iexact H1

/-- The state of slot `r` and of what is owed, as the conditionals move it. -/
def Mv (r : Fin 3) (p : ℕ × ℕ) : sProp 𝕄 := iprop(SendSt G c r p.1 ∗ ∃ W, owes (c : Thread nD τ) (owedR c p.2) W)

theorem asm_step {α : Type} {P : Prop} {d : Decidable P} {k : PLift P → PT F α} {Q : α → sProp 𝕄} (h : P) :
    WP c (k ⟨h⟩) Q ⊢ WP c (.op (.assume P d) k) Q := by
  unfold WP
  rw [wp_assume_of 𝒱₀ (c : Thread nD τ) none Set.univ h]

theorem dev4_word (c : Dev nD) (r : Fin 3) : k0_dev4 (BitVec.ofNat 32 (tgt c r).val) = (tgt c r).val := by revert c r; decide +kernel
theorem dev5_word (c : Dev nD) (r : Fin 3) : k0_dev5 (BitVec.ofNat 32 (tgt c r).val) = (tgt c r).val := by revert c r; decide +kernel
theorem dev6_word (c : Dev nD) (r : Fin 3) : k0_dev6 (BitVec.ofNat 32 (tgt c r).val) = (tgt c r).val := by revert c r; decide +kernel

/-- The conditions the program computes in place. -/
abbrev eqW (i : grid0.Coords) (n : BitVec 32) : BitVec 1 := Scalar.cmpi .ne (Scalar.extui (Scalar.cmpi .eq (BitVec.ofNat 32 (i 0)) n) : BitVec 32) 0#32
theorem eqW15 (i : grid0.Coords) : eqW i 15#32 = 1#1 ↔ pt i = 15 :=
  forall_pt (P := fun i => eqW i 15#32 = 1#1 ↔ pt i = 15) (by decide +kernel) i
theorem eqW31 (i : grid0.Coords) : eqW i 31#32 = 1#1 ↔ pt i = 31 :=
  forall_pt (P := fun i => eqW i 31#32 = 1#1 ↔ pt i = 31) (by decide +kernel) i
theorem eqW47 (i : grid0.Coords) : eqW i 47#32 = 1#1 ↔ pt i = 47 :=
  forall_pt (P := fun i => eqW i 47#32 = 1#1 ↔ pt i = 47) (by decide +kernel) i

theorem pay10_eq : k0_pay10 (F := F) = k0_pay9 := rfl
theorem pay11_eq : k0_pay11 (F := F) = k0_pay9 := rfl
theorem pay12_eq : k0_pay12 (F := F) = k0_pay9 := rfl
theorem pay13_eq : k0_pay13 (F := F) = k0_pay9 := rfl
theorem pay1_eq : k0_pay1 (F := F) = k0_pay9 := rfl
theorem pay2_eq : k0_pay2 (F := F) = k0_pay9 := rfl
theorem pay3_eq : k0_pay3 (F := F) = k0_pay9 := rfl

theorem half_congr {h h' : ℕ} (e : h = h') (f : S2048x1024.Idx → Elt F .f32) : accPt (F := F) c (accHalf h) f = accPt c (accHalf h') f := by rw [e]
theorem send_congr {r : Fin 3} {p p' : ℕ} (e : p = p') : (SendSt G c r p : sProp 𝕄) = SendSt G c r p' := by rw [e]
theorem owed_congr {o o' : ℕ} (e : o = o') :
    (iprop(∃ W, owes (c : Thread nD τ) (owedR c o) W) : sProp 𝕄) = iprop(∃ W, owes (c : Thread nD τ) (owedR c o') W) := by rw [e]

set_option maxHeartbeats 4000000 in
theorem part8_step (i : grid0.Coords) (m2 m3 : Memref sig .tc .vmem S1024x1024 .bf16) (h1 h2 h3 h4 h5 h6 h7 h8 h9) (v2 v75 v85 v99 v102 v103 v108)
    {fw : S2x1024x1024.Idx → Elt F .bf16} {fa : S2048x1024.Idx → Elt F .f32} {w : Vec F S1024x1024 .f32}
    (hw : w = k0_pay8 v75 v99 ((wbM.access (Rect.unit (s := S2x1024x1024) (k0_off3 i) S1x1024x1024.size (k0_off3_inb i))).read (Elt F) fw)
      ((accM.access (Rect.unit (s := S2048x1024) (k0_off4 i) S1024x1024.size (k0_off4_inb i))).read (Elt F) fa))
    (hG : ∀ r h : ℕ, h < 2 → pt i = 16 * r + 15 + h → G c r h = k0_pay9 w) {Q} :
    iprop(Pers G K c ∗ TabSt c ∗ wbPt c (slot2 ((pt i + 1) % 2)) fw ∗ accPt c (accHalf (half (pt i))) fa
        ∗ SendSt G c 0 (ph 0 (pt i)) ∗ SendSt G c 1 (ph 1 (pt i)) ∗ SendSt G c 2 (ph 2 (pt i)) ∗ (∃ W, owes (c : Thread nD τ) (owedR c (pt i)) W))
      ⊢ iprop((∀ u, (TabSt c ∗ wbPt c (slot2 ((pt i + 1) % 2)) fw ∗ accPt c (accHalf (half (pt i))) (accBuf w)
          ∗ SendSt G c 0 (if pt i = 16 then 2 else if pt i = 15 then 1 else ph 0 (pt i))
          ∗ SendSt G c 1 (if pt i = 32 then 2 else if pt i = 31 then 1 else ph 1 (pt i))
          ∗ SendSt G c 2 (if pt i = 47 then 1 else ph 2 (pt i))
          ∗ (∃ W, owes (c : Thread nD τ) (owedR c (if pt i = 32 then 33 else if pt i = 16 then 17 else pt i)) W)) -∗ Q u)
        -∗ WP c (k0_part8 (F := F) i tabM h1 m2 h2 m3 h3 outM h4 outM h5 accM h6 xbM h7 wbM h8 sbM h9 cc0_scratch4 cc0_scratch5 cc0_scratch6
            (BitVec.ofNat 32 (i 0)) c v2 v75 v85 v99 v102 v103 v108) Q) := by
  simp only [k0_part8_eq_skeleton]; unfold k0_part8_skel
  simp (config := {zeta := false}) only [smemLoad, smemLoadElt, Prog.lift, Prog.bind_op, Prog.bind_ret, Prog.pure_eq_ret, Prog.bind_assoc, pay10_eq, pay11_eq, pay12_eq, pay13_eq]
  iintro ⟨#HP, HT, Hw, Ha, HS0, HS1, HS2, HO⟩ Hk
  iapply (wb_load c (off3_eq i) _) $$ Hw
  iintro Hw
  iapply (acc_load c (off4_eq i) _) $$ Ha
  iintro Ha
  iapply (acc_load c (off4_eq i) _) $$ Ha
  iintro Ha
  iapply (acc_store c (off4_eq i) _) $$ Ha
  iintro Ha
  rw [← hw]
  -- point 15: half 0 of chunk 0
  iapply (dite_cut c (eqW15 i) (Pers G K c) (accPt c (accHalf (half (pt i))) (accBuf w)) (SendSt G c 0) (ph 0 (pt i)) 1 ?ht) $$ [Ha HS0]
  · iintro %h ⟨-, Ha, HS⟩ Hk'
    have hs := (eqW15 i).mp h
    rw [hs]
    iapply (half0_step G c 0 rfl rfl _ _ (hG 0 0 (by decide) hs)) $$ [Ha HS]
    · isplitl [Ha]; · iexact Ha
      iexact HS
    iexact Hk'
  · isplitr; · iexact HP
    isplitl [Ha]; · iexact Ha
    iexact HS0
  iintro ⟨Ha, HS0⟩
  -- point 16: half 1 of chunk 0, and the chunk sent
  iapply (dite_cut c (cond3_iff i) (Pers G K c) (iprop(accPt c (accHalf (half (pt i))) (accBuf w) ∗ TabSt c)) (Mv G c 0)
    (if pt i = 15 then 1 else ph 0 (pt i), pt i) (2, 17) ?ht2) $$ [Ha HT HS0 HO]
  · iintro %h ⟨#HP, ⟨Ha, HT⟩, HM⟩ Hk'
    have hs := (cond3_iff i).mp h
    rw [hs]
    unfold Mv
    icases HM with ⟨HS, ⟨%W, HO⟩⟩
    iapply (half1_step G c 0 rfl rfl _ _ (hG 0 1 (by decide) hs)) $$ [Ha HS]
    · isplitl [Ha]; · iexact Ha
      iexact HS
    iintro ⟨Ha, Hg, Hd, HS⟩
    iapply (tab_load c 0 _) $$ HT
    iintro HT
    iapply (asm_step c (show k0_chk1 i _ from fun _ => (dev4_word c 0).trans_lt (tgt c 0).isLt))
    iapply (send_step c G K 0 (Fin.ext (dev4_word c 0)) (off5_eq c) _ _ (owedR_16 c) (W := W)) $$ [HO Hg Hd HS]
    · isplitr; · iexact HP
      isplitl [HO]; · iexact HO
      isplitl [Hg]; · iexact Hg
      isplitl [Hd]; · iexact Hd
      iexact HS
    iintro ⟨HO, HS⟩
    iapply Hk'
    isplitl [Ha HT]
    · isplitl [Ha]; · iexact Ha
      iexact HT
    isplitl [HS]; · iexact HS
    iexists W; iexact HO
  · isplitr; · iexact HP
    isplitl [Ha HT]
    · isplitl [Ha]; · iexact Ha
      iexact HT
    unfold Mv
    isplitl [HS0]; · iexact HS0
    iexact HO
  iintro ⟨⟨Ha, HT⟩, HM⟩
  -- point 31: half 0 of chunk 1
  iapply (dite_cut c (eqW31 i) (Pers G K c) (accPt c (accHalf (half (pt i))) (accBuf w)) (SendSt G c 1) (ph 1 (pt i)) 1 ?ht3) $$ [Ha HS1]
  · iintro %h ⟨-, Ha, HS⟩ Hk'
    have hs := (eqW31 i).mp h
    rw [hs]
    iapply (half0_step G c 1 rfl rfl _ _ (hG 1 0 (by decide) hs)) $$ [Ha HS]
    · isplitl [Ha]; · iexact Ha
      iexact HS
    iexact Hk'
  · isplitr; · iexact HP
    isplitl [Ha]; · iexact Ha
    iexact HS1
  iintro ⟨Ha, HS1⟩
  have hM : Mv G c 0 (if pt i = 16 then (2, 17) else (if pt i = 15 then 1 else ph 0 (pt i), pt i))
      = iprop(SendSt G c 0 (if pt i = 16 then 2 else if pt i = 15 then 1 else ph 0 (pt i)) ∗ ∃ W, owes (c : Thread nD τ) (owedR c (if pt i = 16 then 17 else pt i)) W) := by
    by_cases h : pt i = 16
    · rw [if_pos h, if_pos h, if_pos h]; rfl
    · rw [if_neg h, if_neg h, if_neg h]; rfl
  ihave HM := (Entails.of_eq hM) $$ HM
  icases HM with ⟨HS0, HO⟩
  -- point 32: half 1 of chunk 1, and the chunk sent
  iapply (dite_cut c (cond5_iff i) (Pers G K c) (iprop(accPt c (accHalf (half (pt i))) (accBuf w) ∗ TabSt c)) (Mv G c 1)
    (if pt i = 31 then 1 else ph 1 (pt i), if pt i = 16 then 17 else pt i) (2, 33) ?ht4) $$ [Ha HT HS1 HO]
  · iintro %h ⟨#HP, ⟨Ha, HT⟩, HM⟩ Hk'
    have hs := (cond5_iff i).mp h
    rw [hs]
    unfold Mv
    icases HM with ⟨HS, ⟨%W, HO⟩⟩
    iapply (half1_step G c 1 rfl rfl _ _ (hG 1 1 (by decide) hs)) $$ [Ha HS]
    · isplitl [Ha]; · iexact Ha
      iexact HS
    iintro ⟨Ha, Hg, Hd, HS⟩
    iapply (tab_load c 1 _) $$ HT
    iintro HT
    iapply (asm_step c (show k0_chk2 i _ from fun _ => (dev5_word c 1).trans_lt (tgt c 1).isLt))
    iapply (send_step c G K 1 (Fin.ext (dev5_word c 1)) (off6_eq c) _ _ (owedR_32 c) (W := W)) $$ [HO Hg Hd HS]
    · isplitr; · iexact HP
      isplitl [HO]; · iexact HO
      isplitl [Hg]; · iexact Hg
      isplitl [Hd]; · iexact Hd
      iexact HS
    iintro ⟨HO, HS⟩
    iapply Hk'
    isplitl [Ha HT]
    · isplitl [Ha]; · iexact Ha
      iexact HT
    isplitl [HS]; · iexact HS
    iexists W; iexact HO
  · isplitr; · iexact HP
    isplitl [Ha HT]
    · isplitl [Ha]; · iexact Ha
      iexact HT
    unfold Mv
    isplitl [HS1]; · iexact HS1
    iexact HO
  iintro ⟨⟨Ha, HT⟩, HM⟩
  have hM' : Mv G c 1 (if pt i = 32 then (2, 33) else (if pt i = 31 then 1 else ph 1 (pt i), if pt i = 16 then 17 else pt i))
      = iprop(SendSt G c 1 (if pt i = 32 then 2 else if pt i = 31 then 1 else ph 1 (pt i))
        ∗ ∃ W, owes (c : Thread nD τ) (owedR c (if pt i = 32 then 33 else if pt i = 16 then 17 else pt i)) W) := by
    by_cases h : pt i = 32
    · rw [if_pos h, if_pos h, if_pos h]; rfl
    · rw [if_neg h, if_neg h, if_neg h]; rfl
  ihave HM := (Entails.of_eq hM') $$ HM
  icases HM with ⟨HS1, HO⟩
  -- point 47: half 0 of chunk 2
  iapply (dite_cut c (eqW47 i) (Pers G K c) (accPt c (accHalf (half (pt i))) (accBuf w)) (SendSt G c 2) (ph 2 (pt i)) 1 ?ht5) $$ [Ha HS2]
  · iintro %h ⟨-, Ha, HS⟩ Hk'
    have hs := (eqW47 i).mp h
    rw [hs]
    iapply (half0_step G c 2 rfl rfl _ _ (hG 2 0 (by decide) hs)) $$ [Ha HS]
    · isplitl [Ha]; · iexact Ha
      iexact HS
    iexact Hk'
  · isplitr; · iexact HP
    isplitl [Ha]; · iexact Ha
    iexact HS2
  iintro ⟨Ha, HS2⟩
  iapply (ret_step c)
  iapply Hk
  isplitl [HT]; · iexact HT
  isplitl [Hw]; · iexact Hw
  isplitl [Ha]; · iexact Ha
  isplitl [HS0]; · iexact HS0
  isplitl [HS1]; · iexact HS1
  isplitl [HS2]; · iexact HS2
  iexact HO

end Cert.KernelIdeal.Proof
-- ==== Proof.Body4.lean ====
/-
  THE BODY'S LAST PART, at the last point: the device's own last half, its local copy, and every wait.
-/
module

public import proofs.«01_k».proof.Proof.Body3

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (G : Blocks F) (K : GSem nD τ sig → ℕ) (c : Dev nD)

theorem bind_step {α β : Type} (p : PT F α) (k : α → PT F β) {Q : β → sProp 𝕄} :
    WP c p (fun u => WP c (k u) Q) ⊢ WP c (p >>= k) Q := by
  unfold WP
  simp only [wp_bind]
  exact .rfl

theorem sendSt_three (c : Dev nD) (r : Fin 3) :
    SendSt G c r 3 = iprop(atPos ER (sendCell c r) 1 ∅ 0 ∗ sbPt c (sendHalf r.val 0) (sendBuf (G c 3)) ∗ ∃ f, sbPt c (sendHalf r.val 1) f) := rfl

/-- The last half stored and the local copy started. -/
theorem part2_step (i : grid0.Coords) (m2 m3 : Memref sig .tc .vmem S1024x1024 .bf16) (h1 h2 h3 h4 h5 h6 h7 h8 h9) (v2) (hc : k0_cond9 i = 1#1)
    {w : Vec F S1024x1024 .f32} (hG : G c 3 1 = k0_pay9 w) {Q} :
    iprop(Pers G K c ∗ accPt c (accHalf 1) (accBuf w) ∗ (sbPt c (sendHalf 0 0) (sendBuf (G c 3)) ∗ ∃ f, sbPt c (sendHalf 0 1) f)
        ∗ (∃ f, outPt c (outRows c.val) f) ∗ dutyTok ER (copyCell c) 0 0)
      ⊢ iprop(((accPt c (accHalf 1) (accBuf w) ∗ cred (tallyAt (copyCell c) () N)) -∗ Q ⟨⟩)
        -∗ WP c (k0_part2 (F := F) i tabM h1 m2 h2 m3 h3 outM h4 outM h5 accM h6 xbM h7 wbM h8 sbM h9 cc0_scratch4 cc0_scratch5 cc0_scratch6 c v2 hc) Q) := by
  simp only [k0_part2_eq_skeleton]; unfold k0_part2_skel
  simp (config := {zeta := false}) only [Prog.lift, Prog.bind_op, Prog.bind_ret, Prog.pure_eq_ret, Prog.bind_assoc, pay3_eq]
  iintro ⟨#HP, Ha, ⟨Hs0, ⟨%f, Hs1⟩⟩, Ho, Hd⟩ Hk
  iapply (acc_load c (h := 1) rfl _) $$ Ha
  iintro Ha
  iapply (send_load c (r := 0) (h := 1) rfl _) $$ Hs1
  iintro Hs1
  iapply (send_store c (r := 0) (h := 1) rfl _ (G c 3) (by rw [hG]; congr 1; exact (acc_read (Elt F) (h := 1) rfl _ w).symm)) $$ Hs1
  iintro Hs1
  ihave Hs := (sb_slot c 0 (sendBuf (G c 3))) $$ [Hs0 Hs1]
  · isplitl [Hs0]; · iexact Hs0
    iexact Hs1
  iapply (copy_step c G K (off9_eq c) _ _) $$ [Hs Ho Hd]
  · isplitr; · iexact HP
    isplitl [Hs]; · iexact Hs
    isplitl [Ho]; · iexact Ho
    iexact Hd
  iintro Hc
  iapply (ret_step c)
  iapply Hk
  isplitl [Ha]; · iexact Ha
  iexact Hc

/-- A send's own completion: its slot comes back. -/
theorem wait_send (r : Fin 3) {sp sp' : Space} {s s' : Shape} {e e' : EltTy} {m₁ : Memref sig (c : Thread nD τ).2.kind sp s e} {m₂ : Memref sig (c : Thread nD τ).2.kind sp' s' e'}
    (hN : m₂.view.dmaCredit = N) {α : Type} {k : PUnit → PT F α} {Q : α → sProp 𝕄} {h1 h2} :
    iprop(Pers G K c ∗ (∃ W, owes (c : Thread nD τ) (0 : CellTallies nD τ sig Unit) W) ∗ cred (tallyAt (sendCell c r) () N) ∗ atPos ER (sendCell c r) 0 ∅ 0)
      ⊢ iprop((((∃ W, owes (c : Thread nD τ) (0 : CellTallies nD τ sig Unit) W) ∗ atPos ER (sendCell c r) 1 ∅ 0 ∗ sendPay G c r.val) -∗ WP c (k ⟨⟩) Q)
        -∗ WP c (.op (.waitDma2 (sendS r) m₁ m₂ h1 h2) k) Q) := by
  rw [← dmaPay_send G c r]
  iintro ⟨#HP, ⟨%W, HO⟩, Hc, Ha⟩ Hk
  iapply (wait_step c G K (sendS r) (by show 4 ≤ 4 + r.val; omega) (mem_send c r) hN (W := W)) $$ [HO Hc Ha]
  · isplitr; · iexact HP
    isplitl [HO]; · iexact HO
    isplitl [Hc]; · iexact Hc
    iexact Ha
  iexact Hk

/-- A receipt: the rows a peer has written. -/
theorem wait_recv (r : Fin 3) {sp sp' : Space} {s s' : Shape} {e e' : EltTy} {m₁ : Memref sig (c : Thread nD τ).2.kind sp s e} {m₂ : Memref sig (c : Thread nD τ).2.kind sp' s' e'}
    (hN : m₂.view.dmaCredit = N) {α : Type} {k : PUnit → PT F α} {Q : α → sProp 𝕄} {h1 h2} :
    iprop(Pers G K c ∗ (∃ W, owes (c : Thread nD τ) (0 : CellTallies nD τ sig Unit) W) ∗ cred (tallyAt (recvCell c r) () N) ∗ atPos ER (recvCell c r) 0 ∅ 0)
      ⊢ iprop((((∃ W, owes (c : Thread nD τ) (0 : CellTallies nD τ sig Unit) W) ∗ atPos ER (recvCell c r) 1 ∅ 0 ∗ recvPay G c r) -∗ WP c (k ⟨⟩) Q)
        -∗ WP c (.op (.waitDma2 (recvS r) m₁ m₂ h1 h2) k) Q) := by
  rw [← dmaPay_recv G c r]
  iintro ⟨#HP, ⟨%W, HO⟩, Hc, Ha⟩ Hk
  iapply (wait_step c G K (recvS r) (by show 4 ≤ 7 + r.val; omega) (mem_recv c r) hN (W := W)) $$ [HO Hc Ha]
  · isplitr; · iexact HP
    isplitl [HO]; · iexact HO
    isplitl [Hc]; · iexact Hc
    iexact Ha
  iexact Hk

/-- The local copy's completion. -/
theorem wait_copy {sp sp' : Space} {s s' : Shape} {e e' : EltTy} {m₁ : Memref sig (c : Thread nD τ).2.kind sp s e} {m₂ : Memref sig (c : Thread nD τ).2.kind sp' s' e'}
    (hN : m₂.view.dmaCredit = N) {α : Type} {k : PUnit → PT F α} {Q : α → sProp 𝕄} {h1 h2} :
    iprop(Pers G K c ∗ (∃ W, owes (c : Thread nD τ) (0 : CellTallies nD τ sig Unit) W) ∗ cred (tallyAt (copyCell c) () N) ∗ atPos ER (copyCell c) 0 ∅ 0)
      ⊢ iprop((((∃ W, owes (c : Thread nD τ) (0 : CellTallies nD τ sig Unit) W) ∗ atPos ER (copyCell c) 1 ∅ 0 ∗ copyPay G c) -∗ WP c (k ⟨⟩) Q)
        -∗ WP c (.op (.waitDma2 (copyS) m₁ m₂ h1 h2) k) Q) := by
  rw [← dmaPay_copy G c]
  iintro ⟨#HP, ⟨%W, HO⟩, Hc, Ha⟩ Hk
  iapply (wait_step c G K (copyS) (by show 4 ≤ 10; omega) (mem_copy c) hN (W := W)) $$ [HO Hc Ha]
  · isplitr; · iexact HP
    isplitl [HO]; · iexact HO
    isplitl [Hc]; · iexact Hc
    iexact Ha
  iexact Hk

theorem slot_credit (r inb) : (slotM r inb).view.dmaCredit = N := rfl
theorem rows_credit (off inb) : (rowsM off inb).view.dmaCredit = N := rfl

/-- What a finished wait leaves of its cell. -/
abbrev Past (g : GSem nD τ sig) : sProp 𝕄 := atPos ER g 1 ∅ 0
/-- What a wait to come needs of its cell. -/
abbrev Due (g : GSem nD τ sig) : sProp 𝕄 := iprop(cred (tallyAt g () N) ∗ atPos ER g 0 ∅ 0)
abbrev Idle (c : Dev nD) : sProp 𝕄 := iprop(∃ W, owes (c : Thread nD τ) (0 : CellTallies nD τ sig Unit) W)

/-- The first two receipts. -/
theorem part3_step (i : grid0.Coords) (m2 m3 : Memref sig .tc .vmem S1024x1024 .bf16) (h1 h2 h3 h4 h5 h6 h7 h8 h9) (v2) (hc : k0_cond9 i = 1#1) {Q} :
    iprop(Pers G K c ∗ Idle c ∗ Due (recvCell c 0) ∗ Due (recvCell c 1))
      ⊢ iprop((∀ a b d, (Idle c ∗ (Past (recvCell c 0) ∗ recvPay G c 0) ∗ (Past (recvCell c 1) ∗ recvPay G c 1)) -∗ Q ⟨a, b, d⟩)
        -∗ WP c (k0_part3 (F := F) i tabM h1 m2 h2 m3 h3 outM h4 outM h5 accM h6 xbM h7 wbM h8 sbM h9 cc0_scratch4 cc0_scratch5 cc0_scratch6 c v2 hc) Q) := by
  simp only [k0_part3_eq_skeleton]; unfold k0_part3_skel
  simp (config := {zeta := false}) only [Prog.lift, Prog.bind_op, Prog.bind_ret, Prog.pure_eq_ret, Prog.bind_assoc]
  iintro ⟨#HP, HO, ⟨Hc0, Ha0⟩, ⟨Hc1, Ha1⟩⟩ Hk
  iapply (wait_recv G K c 0 (rows_credit _ _)) $$ [HO Hc0 Ha0]
  · isplitr; · iexact HP
    isplitl [HO]; · iexact HO
    isplitl [Hc0]; · iexact Hc0
    iexact Ha0
  iintro ⟨HO, H0⟩
  iapply (wait_recv G K c 1 (rows_credit _ _)) $$ [HO Hc1 Ha1]
  · isplitr; · iexact HP
    isplitl [HO]; · iexact HO
    isplitl [Hc1]; · iexact Hc1
    iexact Ha1
  iintro ⟨HO, H1⟩
  iapply (ret_step c)
  iapply Hk
  isplitl [HO]; · iexact HO
  isplitl [H0]; · iexact H0
  iexact H1

/-- The third receipt and the completions of the last two sends. -/
theorem part4_step (i : grid0.Coords) (m2 m3 : Memref sig .tc .vmem S1024x1024 .bf16) (h1 h2 h3 h4 h5 h6 h7 h8 h9) (v2) (hc : k0_cond9 i = 1#1) (a b d) {Q} :
    iprop(Pers G K c ∗ TabSt c ∗ Idle c ∗ Due (recvCell c 2) ∗ Due (sendCell c 1) ∗ Due (sendCell c 2))
      ⊢ iprop(((TabSt c ∗ Idle c ∗ (Past (recvCell c 2) ∗ recvPay G c 2) ∗ (Past (sendCell c 1) ∗ sendPay G c 1) ∗ (Past (sendCell c 2) ∗ sendPay G c 2)) -∗ Q ⟨⟩)
        -∗ WP c (k0_part4 (F := F) i tabM h1 m2 h2 m3 h3 outM h4 outM h5 accM h6 xbM h7 wbM h8 sbM h9 cc0_scratch4 cc0_scratch5 cc0_scratch6 c v2 hc a b d) Q) := by
  simp only [k0_part4_eq_skeleton]; unfold k0_part4_skel
  simp (config := {zeta := false}) only [smemLoad, smemLoadElt, Prog.lift, Prog.bind_op, Prog.bind_ret, Prog.pure_eq_ret, Prog.bind_assoc]
  iintro ⟨#HP, HT, HO, ⟨Hc0, Ha0⟩, ⟨Hc1, Ha1⟩, ⟨Hc2, Ha2⟩⟩ Hk
  iapply (wait_recv G K c 2 (rows_credit _ _)) $$ [HO Hc0 Ha0]
  · isplitr; · iexact HP
    isplitl [HO]; · iexact HO
    isplitl [Hc0]; · iexact Hc0
    iexact Ha0
  iintro ⟨HO, H0⟩
  iapply (tab_load c 1 _) $$ HT
  iintro HT
  iapply (wait_send G K c 1 (slot_credit _ _)) $$ [HO Hc1 Ha1]
  · isplitr; · iexact HP
    isplitl [HO]; · iexact HO
    isplitl [Hc1]; · iexact Hc1
    iexact Ha1
  iintro ⟨HO, H1⟩
  iapply (tab_load c 2 _) $$ HT
  iintro HT
  iapply (wait_send G K c 2 (slot_credit _ _)) $$ [HO Hc2 Ha2]
  · isplitr; · iexact HP
    isplitl [HO]; · iexact HO
    isplitl [Hc2]; · iexact Hc2
    iexact Ha2
  iintro ⟨HO, H2⟩
  iapply (ret_step c)
  iapply Hk
  isplitl [HT]; · iexact HT
  isplitl [HO]; · iexact HO
  isplitl [H0]; · iexact H0
  isplitl [H1]; · iexact H1
  iexact H2

/-- Every cell closed and every region gathered: the end of the work. -/
theorem done_intro :
    iprop(Pers G K c ∗ (Past (sendCell c 0) ∗ Past (sendCell c 1) ∗ Past (sendCell c 2)) ∗ (Past (recvCell c 0) ∗ Past (recvCell c 1) ∗ Past (recvCell c 2)) ∗ Past (copyCell c)
        ∗ (recvPay G c 0 ∗ recvPay G c 1 ∗ recvPay G c 2) ∗ copyPay G c ∗ sendPay G c 1 ∗ sendPay G c 2)
      ⊢ (|={Set.univ}=> Done G c : sProp 𝕄) := by
  unfold Done copyPay recvPay sendPay
  rw [out_parts]
  iintro ⟨#HP, ⟨S0, S1, S2⟩, ⟨R0, R1, R2⟩, C, ⟨P0, P1, P2⟩, ⟨PC, Q0⟩, Q1, Q2⟩
  imod (close_sc c G K (sendS 0) (mem_send c 0)) $$ [S0] with S0
  · isplitr; · iexact HP
    iexact S0
  imod (close_sc c G K (sendS 1) (mem_send c 1)) $$ [S1] with S1
  · isplitr; · iexact HP
    iexact S1
  imod (close_sc c G K (sendS 2) (mem_send c 2)) $$ [S2] with S2
  · isplitr; · iexact HP
    iexact S2
  imod (close_sc c G K (recvS 0) (mem_recv c 0)) $$ [R0] with R0
  · isplitr; · iexact HP
    iexact R0
  imod (close_sc c G K (recvS 1) (mem_recv c 1)) $$ [R1] with R1
  · isplitr; · iexact HP
    iexact R1
  imod (close_sc c G K (recvS 2) (mem_recv c 2)) $$ [R2] with R2
  · isplitr; · iexact HP
    iexact R2
  imod (close_sc c G K copyS (mem_copy c)) $$ [C] with C
  · isplitr; · iexact HP
    iexact C
  imodintro
  isplitl [S0 S1 S2]
  · isplitl [S0]; · iexact S0
    isplitl [S1]; · iexact S1
    iexact S2
  isplitl [R0 R1 R2]
  · isplitl [R0]; · iexact R0
    isplitl [R1]; · iexact R1
    iexact R2
  isplitl [C]; · iexact C
  isplitl [P0 P1 P2 PC]
  · isplitl [P0]; · iexact P0
    isplitl [P1]; · iexact P1
    isplitl [P2]; · iexact P2
    iexact PC
  iapply (sb_join c (sendBuf (G c 3)) (sendBuf (G c 1)) (sendBuf (G c 2)))
  isplitl [Q0]; · iexact Q0
  isplitl [Q1]; · iexact Q1
  iexact Q2

end Cert.KernelIdeal.Proof
-- ==== Proof.Body5.lean ====
/-
  THE WHOLE BODY at a symbolic point of the grid: what it finds, what it leaves.
-/
module

public import proofs.«01_k».proof.Proof.Body4

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

section Tail
variable (G : Blocks F) (K : GSem nD τ sig → ℕ) (c : Dev nD)

/-- The communication's state at the last conditional: done, or as the phases say. -/
def Fini (p0 p1 p2 o : ℕ) : Bool → sProp 𝕄
  | true => iprop((∃ W, owes (c : Thread nD τ) (owedR c o) W) ∗ Done G c)
  | false => iprop((∃ W, owes (c : Thread nD τ) (owedR c o) W) ∗ Comm G c p0 p1 p2)
theorem fini_true (p0 p1 p2 o : ℕ) : (Fini G c p0 p1 p2 o true : sProp 𝕄) = iprop((∃ W, owes (c : Thread nD τ) (owedR c o) W) ∗ Done G c) := rfl
theorem fini_false (p0 p1 p2 o : ℕ) : (Fini G c p0 p1 p2 o false : sProp 𝕄) = iprop((∃ W, owes (c : Thread nD τ) (owedR c o) W) ∗ Comm G c p0 p1 p2) := rfl

theorem ph0_next {s : ℕ} (h : s < 65) : (if s = 63 then 3 else if s = 16 then 2 else if s = 15 then 1 else ph 0 s) = ph 0 (s + 1) := by
  unfold ph; split_ifs <;> first | rfl | omega
theorem ph1_next (s : ℕ) : (if s = 32 then 2 else if s = 31 then 1 else ph 1 s) = ph 1 (s + 1) := by
  unfold ph; simp only [OfNat.ofNat_ne_zero, one_ne_zero, false_and, if_false]; split_ifs <;> first | rfl | omega
theorem ph2_next (s : ℕ) : (if s = 48 then 2 else if s = 47 then 1 else ph 2 s) = ph 2 (s + 1) := by
  unfold ph; simp only [OfNat.ofNat_ne_zero, one_ne_zero, false_and, if_false]; split_ifs <;> first | rfl | omega
theorem owed_next (s : ℕ) : owedR c (if s = 48 then 49 else if s = 32 then 33 else if s = 16 then 17 else s) = owedR c (s + 1) := by
  by_cases h1 : s = 48
  · rw [if_pos h1, h1]
  by_cases h2 : s = 32
  · rw [if_neg h1, if_pos h2, h2]
  by_cases h3 : s = 16
  · rw [if_neg h1, if_neg h2, if_pos h3, h3]
  rw [if_neg h1, if_neg h2, if_neg h3, owedR_step c h3 h2 h1]
end Tail

variable (xs ws : Staged F) (K : GSem nD τ sig → ℕ) (c : Dev nD)

/-- The accumulator's state one point on. -/
theorem acc_next {s : ℕ} {w : Vec F S1024x1024 .f32} (hw : 1 ≤ s → w = accV xs ws c s) {f : S2048x1024.Idx → Elt F .f32}
    (hf : 2 ≤ s → f = accBuf (accV xs ws c (s - 1))) :
    iprop(accPt c (accHalf (half s)) (accBuf w) ∗ accPt c (accHalf (1 - half s)) f) ⊢ AccSt xs ws c (s + 1) := by
  unfold AccSt
  by_cases h0 : s = 0
  · subst h0
    iintro ⟨Ha, Hb⟩
    isplitl [Ha]
    · iexists accBuf w
      isplitr; · ipureintro; intro h; omega
      iexact Ha
    · iexists f
      isplitr; · ipureintro; intro h; omega
      iexact Hb
  · have e1 : half (s + 1) = 1 - half s := by unfold half; rw [if_neg (by omega), if_neg h0]; omega
    have e2 : 1 - half (s + 1) = half s := by rw [e1]; unfold half; rw [if_neg h0]; omega
    rw [e1, ← e1, e2, e1]
    iintro ⟨Ha, Hb⟩
    isplitl [Hb]
    · iexists f
      isplitr; · ipureintro; intro h; rw [hf (by omega)]; rfl
      iexact Hb
    · iexists accBuf w
      isplitr; · ipureintro; intro h; rw [hw (by omega)]; rfl
      iexact Ha

/-- What the body is given at point `s`, and what it leaves. -/
def In (s : ℕ) : sProp 𝕄 := iprop(TabSt c ∗ XbSt xs c s ∗ WbSt ws c s ∗ AccSt xs ws c s)
def Out (s : ℕ) : sProp 𝕄 :=
  iprop(Fini (Gv xs ws) c (ph 0 (s + 1)) (ph 1 (s + 1)) (ph 2 (s + 1)) (s + 1) (if s = 64 then true else false) ∗ semVal (barCell c) 0)

set_option maxHeartbeats 4000000 in
theorem body_step (i : grid0.Coords) (m2 m3 : Memref sig .tc .vmem S1024x1024 .bf16) (h1 h2 h3 h4 h5 h6 h7 h8 h9)
    {X W : Vec F S1024x1024 .bf16} (hX : X = xs c (pt i)) (hW : W = ws c (pt i)) :
    iprop(Pers (Gv xs ws) K c ∗ Gate (Gv xs ws) c (pt i) false ∗ In xs ws c (pt i) ∗ owns (c : Thread nD τ) m2 fullShare X ∗ owns (c : Thread nD τ) m3 fullShare W)
      ⊢ WP c (cc0_body (F := F) i tabM h1 m2 h2 m3 h3 outM h4 outM h5 accM h6 xbM h7 wbM h8 sbM h9 cc0_scratch4 cc0_scratch5 cc0_scratch6)
          fun _ => iprop(Out xs ws c (pt i) ∗ In xs ws c (pt i + 1) ∗ owns (c : Thread nD τ) m2 fullShare X ∗ owns (c : Thread nD τ) m3 fullShare W) := by
  simp only [cc0_body_eq_skeleton]; unfold cc0_body_skel
  simp (config := {zeta := false}) only [smemLoad, smemLoadElt, Prog.lift, Prog.bind_op, Prog.bind_ret, Prog.pure_eq_ret, Prog.bind_assoc, pay1_eq, pay2_eq]
  unfold In XbSt WbSt
  iintro ⟨#HP, HG, ⟨HT, ⟨Hx, ⟨%fx, %hfx, Hx'⟩⟩, ⟨Hw, ⟨%fw, %hfw, Hw'⟩⟩, HA⟩, H2, H3⟩
  iapply (bind_step c _ _)
  iapply (part5_step (Gv xs ws) K c i m2 m3 h1 h2 h3 h4 h5 h6 h7 h8 h9) $$ [HT HG H2 H3 Hx]
  · isplitr; · iexact HP
    isplitl [HT]; · iexact HT
    isplitl [HG]; · iexact HG
    isplitl [H2]; · iexact H2
    isplitl [H3]; · iexact H3
    iexact Hx
  iintro %v2 %v33 ⟨HT, HG, H2, H3, Hx⟩
  iapply (bind_step c _ _)
  iapply (part6_step c i m2 m3 h1 h2 h3 h4 h5 h6 h7 h8 h9 _ _) $$ Hw
  iintro %v48 %v59 %v70 %v71 %z ⟨%hk, Hw⟩
  iapply (bind_step c _ _)
  iapply (part7_step c i m2 m3 h1 h2 h3 h4 h5 h6 h7 h8 h9 _ _ _ _ _) $$ Hx'
  iintro %v85 %v102 %v103 %v108 Hx'
  have hsN : pt i < 65 := (i 0).isLt
  ihave HA := (Entails.of_eq (show (AccSt xs ws c (pt i) : sProp 𝕄) = iprop((∃ f, ⌜3 ≤ pt i → f = accBuf (accV xs ws c (pt i - 2))⌝ ∗ accPt c (accHalf (half (pt i))) f)
    ∗ ∃ f, ⌜2 ≤ pt i → f = accBuf (accV xs ws c (pt i - 1))⌝ ∗ accPt c (accHalf (1 - half (pt i))) f) from rfl)) $$ HA
  icases HA with ⟨⟨%fa, %hfa, Ha⟩, ⟨%fb, %hfb, Hb⟩⟩
  generalize hwd : k0_pay8 (kSel v59 v70 v71 z) (k0_pay7 ((xbM.access (Rect.unit (s := S2x1024x1024) (k0_off3 i) S1x1024x1024.size (k0_off3_inb i))).read (Elt F) fx))
      ((wbM.access (Rect.unit (s := S2x1024x1024) (k0_off3 i) S1x1024x1024.size (k0_off3_inb i))).read (Elt F) fw)
      ((accM.access (Rect.unit (s := S2048x1024) (k0_off4 i) S1024x1024.size (k0_off4_inb i))).read (Elt F) fa) = w
  have hw : 1 ≤ pt i → w = accV xs ws c (pt i) := by
    intro h1s
    rw [← hwd, hk, hfx h1s, hfw h1s, xb_read (Elt F) (off3_eq i), wb_read (Elt F) (off3_eq i)]
    refine accV_step xs ws c h1s _ fun h3 => ?_
    rw [hfa h3, acc_read (Elt F) (off4_eq i)]
  have hG : ∀ r h : ℕ, h < 2 → pt i = 16 * r + 15 + h → Gv xs ws c r h = k0_pay9 w := by
    intro r h _ e
    rw [hw (by omega), e]; rfl
  ihave HG := (Entails.of_eq (show (After (Gv xs ws) c (pt i) : sProp 𝕄) = iprop((∃ W, owes (c : Thread nD τ) (owedR c (pt i)) W)
    ∗ (SendSt (Gv xs ws) c 0 (ph 0 (pt i)) ∗ SendSt (Gv xs ws) c 1 (ph 1 (pt i)) ∗ SendSt (Gv xs ws) c 2 (ph 2 (pt i)) ∗ RecvSt c ∗ ∃ f, outPt c (outRows c.val) f)
    ∗ semVal (barCell c) 0) from rfl)) $$ HG
  icases HG with ⟨HO, ⟨HS0, HS1, HS2, HR, Ho⟩, HB⟩
  iapply (bind_step c _ _)
  iapply (part8_step (Gv xs ws) K c i m2 m3 h1 h2 h3 h4 h5 h6 h7 h8 h9 _ _ _ _ _ _ _ hwd.symm hG) $$ [HT Hw' Ha HS0 HS1 HS2 HO]
  · isplitr; · iexact HP
    isplitl [HT]; · iexact HT
    isplitl [Hw']; · iexact Hw'
    isplitl [Ha]; · iexact Ha
    isplitl [HS0]; · iexact HS0
    isplitl [HS1]; · iexact HS1
    isplitl [HS2]; · iexact HS2
    iexact HO
  iintro %u ⟨HT, Hw', Ha, HS0, HS1, HS2, HO⟩
  -- point 48: half 1 of chunk 2, and the chunk sent
  iapply (dite_cut c (cond7_iff i) (Pers (Gv xs ws) K c) (iprop(accPt c (accHalf (half (pt i))) (accBuf w) ∗ TabSt c)) (Mv (Gv xs ws) c 2)
    (if pt i = 47 then 1 else ph 2 (pt i), if pt i = 32 then 33 else if pt i = 16 then 17 else pt i) (2, 49) ?ht1) $$ [Ha HT HS2 HO]
  · iintro %h ⟨#HP, ⟨Ha, HT⟩, HM⟩ Hk'
    have hs := (cond7_iff i).mp h
    rw [hs]
    unfold Mv
    icases HM with ⟨HS, ⟨%W, HO⟩⟩
    iapply (half1_step (Gv xs ws) c 2 rfl rfl _ _ (hG 2 1 (by decide) hs)) $$ [Ha HS]
    · isplitl [Ha]; · iexact Ha
      iexact HS
    iintro ⟨Ha, Hg, Hd, HS⟩
    iapply (tab_load c 2 _) $$ HT
    iintro HT
    iapply (asm_step c (show k0_chk3 i _ from fun _ => (dev6_word c 2).trans_lt (tgt c 2).isLt))
    iapply (send_step c (Gv xs ws) K 2 (Fin.ext (dev6_word c 2)) (off7_eq c) _ _ (owedR_48 c) (W := W)) $$ [HO Hg Hd HS]
    · isplitr; · iexact HP
      isplitl [HO]; · iexact HO
      isplitl [Hg]; · iexact Hg
      isplitl [Hd]; · iexact Hd
      iexact HS
    iintro ⟨HO, HS⟩
    iapply Hk'
    isplitl [Ha HT]
    · isplitl [Ha]; · iexact Ha
      iexact HT
    isplitl [HS]; · iexact HS
    iexists W; iexact HO
  · isplitr; · iexact HP
    isplitl [Ha HT]
    · isplitl [Ha]; · iexact Ha
      iexact HT
    unfold Mv
    isplitl [HS2]; · iexact HS2
    iexact HO
  iintro ⟨⟨Ha, HT⟩, HM⟩
  have hM : Mv (Gv xs ws) c 2 (if pt i = 48 then (2, 49) else (if pt i = 47 then 1 else ph 2 (pt i), if pt i = 32 then 33 else if pt i = 16 then 17 else pt i))
      = iprop(SendSt (Gv xs ws) c 2 (ph 2 (pt i + 1)) ∗ ∃ W, owes (c : Thread nD τ) (owedR c (pt i + 1)) W) := by
    rw [← owed_next, ← ph2_next]
    by_cases h : pt i = 48
    · rw [if_pos h, if_pos h, if_pos h]; rfl
    · rw [if_neg h, if_neg h, if_neg h]; rfl
  ihave HM := (Entails.of_eq hM) $$ HM
  icases HM with ⟨HS2, HO⟩
  -- point 63: chunk 0 has left, and half 0 of the device's own chunk takes its slot
  iapply (dite_cut c (cond8_iff i) (Pers (Gv xs ws) K c) (iprop(accPt c (accHalf (half (pt i))) (accBuf w) ∗ TabSt c ∗ ∃ W, owes (c : Thread nD τ) (owedR c (pt i + 1)) W))
    (SendSt (Gv xs ws) c 0) (if pt i = 16 then 2 else if pt i = 15 then 1 else ph 0 (pt i)) 3 ?ht2) $$ [Ha HT HS0 HO]
  · iintro %h ⟨#HP, ⟨Ha, HT, HO⟩, HS⟩ Hk'
    have hs := (cond8_iff i).mp h
    rw [hs]
    rw [owedR_late c (show 48 < 63 + 1 by decide)]
    iapply (tab_load c 0 _) $$ HT
    iintro HT
    ihave HS := (Entails.of_eq (show (SendSt (Gv xs ws) c 0 (if 63 = 16 then 2 else if 63 = 15 then 1 else ph 0 63) : sProp 𝕄) = iprop(cred (tallyAt (sendCell c 0) () N) ∗ atPos ER (sendCell c 0) 0 ∅ 0) from rfl)) $$ HS
    icases HS with ⟨Hc, Hat⟩
    iapply (wait_send (Gv xs ws) K c 0 (slot_credit _ _)) $$ [HO Hc Hat]
    · isplitr; · iexact HP
      isplitl [HO]; · iexact HO
      isplitl [Hc]; · iexact Hc
      iexact Hat
    iintro ⟨HO, Hat, Hs⟩
    ihave Hs := (Entails.of_eq (show (sendPay (Gv xs ws) c (0 : Fin 3).val : sProp 𝕄) = sbPt c (sendSlot 0) (sendBuf (Gv xs ws c 0)) from rfl)) $$ Hs
    ihave Hs := (sb_halves c 0 (sendBuf (Gv xs ws c 0))) $$ Hs
    icases Hs with ⟨Hs0, Hs1⟩
    ihave Ha := (Entails.of_eq (half_congr c (show half 63 = 0 from rfl) (accBuf w))) $$ Ha
    iapply (acc_load c (h := 0) rfl _) $$ Ha
    iintro Ha
    iapply (send_load c (r := 0) (h := 0) rfl _) $$ Hs0
    iintro Hs0
    iapply (send_store c (r := 0) (h := 0) rfl _ (Gv xs ws c 3) (by rw [hG 3 0 (by decide) hs]; congr 1; exact (acc_read (Elt F) (h := 0) rfl _ w).symm)) $$ Hs0
    iintro Hs0
    iapply Hk'
    isplitl [Ha HT HO]
    · isplitl [Ha]; · iexact Ha
      isplitl [HT]; · iexact HT
      iexact HO
    rw [sendSt_three]
    isplitl [Hat]; · iexact Hat
    isplitl [Hs0]; · iexact Hs0
    iexists _; iexact Hs1
  · isplitr; · iexact HP
    isplitl [Ha HT HO]
    · isplitl [Ha]; · iexact Ha
      isplitl [HT]; · iexact HT
      iexact HO
    iexact HS0
  iintro ⟨⟨Ha, HT, HO⟩, HS0⟩
  -- point 64: the end
  iapply (dite_cut c (cond9_iff i) (Pers (Gv xs ws) K c) (iprop(accPt c (accHalf (half (pt i))) (accBuf w) ∗ TabSt c))
    (Fini (Gv xs ws) c (ph 0 (pt i + 1)) (ph 1 (pt i + 1)) (ph 2 (pt i + 1)) (pt i + 1)) false true ?ht3) $$ [Ha HT HS0 HS1 HS2 HR Ho HO]
  · iintro %h ⟨#HP, ⟨Ha, HT⟩, HF⟩ Hk'
    have hs := (cond9_iff i).mp h
    rw [hs]
    ihave HF := (Entails.of_eq (show (Fini (Gv xs ws) c (ph 0 (64 + 1)) (ph 1 (64 + 1)) (ph 2 (64 + 1)) (64 + 1) false : sProp 𝕄)
      = iprop((∃ W, owes (c : Thread nD τ) (0 : CellTallies nD τ sig Unit) W) ∗ (Past (sendCell c 0) ∗ sbPt c (sendHalf 0 0) (sendBuf (Gv xs ws c 3)) ∗ ∃ f, sbPt c (sendHalf 0 1) f)
        ∗ Due (sendCell c 1) ∗ Due (sendCell c 2) ∗ (Due (recvCell c 0) ∗ Due (recvCell c 1) ∗ Due (recvCell c 2) ∗ dutyTok ER (copyCell c) 0 0 ∗ atPos ER (copyCell c) 0 ∅ 0)
        ∗ ∃ f, outPt c (outRows c.val) f) from by rw [fini_false, owedR_late c (show 48 < 64 + 1 by decide)]; rfl)) $$ HF
    icases HF with ⟨HO, ⟨A0, Hs⟩, S1, S2, ⟨R0, R1, R2, Hd, Hac⟩, Ho⟩
    iapply (bind_step c _ _)
    iapply (part2_step (Gv xs ws) K c i m2 m3 h1 h2 h3 h4 h5 h6 h7 h8 h9 _ h (w := w) (hG 3 1 (by decide) hs)) $$ [Ha Hs Ho Hd]
    · isplitr; · iexact HP
      isplitl [Ha]; · iexact Ha
      isplitl [Hs]; · iexact Hs
      isplitl [Ho]; · iexact Ho
      iexact Hd
    iintro ⟨Ha, Hcc⟩
    iapply (bind_step c _ _)
    iapply (part3_step (Gv xs ws) K c i m2 m3 h1 h2 h3 h4 h5 h6 h7 h8 h9 _ h) $$ [HO R0 R1]
    · isplitr; · iexact HP
      isplitl [HO]; · iexact HO
      isplitl [R0]; · iexact R0
      iexact R1
    iintro %a %b %d ⟨HO, ⟨R0, P0⟩, ⟨R1, P1⟩⟩
    iapply (bind_step c _ _)
    iapply (part4_step (Gv xs ws) K c i m2 m3 h1 h2 h3 h4 h5 h6 h7 h8 h9 _ h _ _ _) $$ [HT HO R2 S1 S2]
    · isplitr; · iexact HP
      isplitl [HT]; · iexact HT
      isplitl [HO]; · iexact HO
      isplitl [R2]; · iexact R2
      isplitl [S1]; · iexact S1
      iexact S2
    iintro ⟨HT, HO, ⟨R2, P2⟩, ⟨A1, Q1⟩, ⟨A2, Q2⟩⟩
    iapply (wait_copy (Gv xs ws) K c (rows_credit _ _)) $$ [HO Hcc Hac]
    · isplitr; · iexact HP
      isplitl [HO]; · iexact HO
      isplitl [Hcc]; · iexact Hcc
      iexact Hac
    iintro ⟨HO, Hac, PC⟩
    imod (done_intro (Gv xs ws) K c) $$ [A0 A1 A2 R0 R1 R2 Hac P0 P1 P2 PC Q1 Q2] with HD
    · isplitr; · iexact HP
      isplitl [A0 A1 A2]
      · isplitl [A0]; · iexact A0
        isplitl [A1]; · iexact A1
        iexact A2
      isplitl [R0 R1 R2]
      · isplitl [R0]; · iexact R0
        isplitl [R1]; · iexact R1
        iexact R2
      isplitl [Hac]; · iexact Hac
      isplitl [P0 P1 P2]
      · isplitl [P0]; · iexact P0
        isplitl [P1]; · iexact P1
        iexact P2
      isplitl [PC]; · iexact PC
      isplitl [Q1]; · iexact Q1
      iexact Q2
    iapply Hk'
    isplitl [Ha HT]
    · isplitl [Ha]; · iexact Ha
      iexact HT
    iapply (Entails.of_eq (show (iprop((∃ W, owes (c : Thread nD τ) (0 : CellTallies nD τ sig Unit) W) ∗ Done (Gv xs ws) c) : sProp 𝕄)
      = Fini (Gv xs ws) c (ph 0 (64 + 1)) (ph 1 (64 + 1)) (ph 2 (64 + 1)) (64 + 1) true from by rw [fini_true, owedR_late c (show 48 < 64 + 1 by decide)]))
    isplitl [HO]; · iexact HO
    iexact HD
  · isplitr; · iexact HP
    isplitl [Ha HT]
    · isplitl [Ha]; · iexact Ha
      iexact HT
    rw [fini_false]
    isplitl [HO]; · iexact HO
    unfold Comm
    isplitl [HS0]
    · iapply (Entails.of_eq (send_congr (Gv xs ws) c (ph0_next hsN))); iexact HS0
    isplitl [HS1]
    · iapply (Entails.of_eq (send_congr (Gv xs ws) c (ph1_next (pt i)))); iexact HS1
    isplitl [HS2]; · iexact HS2
    isplitl [HR]; · iexact HR
    iexact Ho
  iintro ⟨⟨Ha, HT⟩, HF⟩
  iapply (ret_step c)
  unfold Out
  isplitl [HF HB]
  · isplitl [HF]; · iexact HF
    iexact HB
  isplitr [H2 H3]
  · isplitl [HT]; · iexact HT
    have em : (pt i + 1 + 1) % 2 = pt i % 2 := by omega
    isplitl [Hx Hx']
    · isplitl [Hx']
      · iexists fx; iexact Hx'
      · iexists slotBuf (k0_pay4 X)
        isplitr
        · ipureintro; intro _; rw [hX]; rfl
        rw [em]; iexact Hx
    isplitl [Hw Hw']
    · isplitl [Hw']
      · iexists fw; iexact Hw'
      · iexists slotBuf (k0_pay6 (k0_pay5 W))
        isplitr
        · ipureintro; intro _; rw [hW]; rfl
        rw [em]; iexact Hw
    iapply (acc_next xs ws c hw hfb)
    isplitl [Ha]; · iexact Ha
    iexact Hb
  isplitl [H2]; · iexact H2
  iexact H3

end Cert.KernelIdeal.Proof
-- ==== Proof.Wins.lean ====
/-
  THE TWO WINDOWS IN CLOSED FORM: which block of the left factor and which block of the right factor a point reads, and that the
  table of targets keeps the second inside its array.
-/
module

public import proofs.«01_k».proof.Proof.Body5
public import Idealize.ShloMosaic.PureOps.BitExact

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-- The point a window reads for: the last point's blocks are those of the point before. -/
def clampPt (s : ℕ) : ℕ := min s 63

theorem win0_eq (i : grid0.Coords) : cc0_transform_0 i = ![clampPt (pt i) % 2, clampPt (pt i) % 16 / 2] :=
  forall_pt (P := fun i => cc0_transform_0 i = ![clampPt (pt i) % 2, clampPt (pt i) % 16 / 2]) (by decide +kernel) i

/-- The table's contents as the prefetched ones. -/
def tabs (c : Dev nD) : pre0.Contents (Elt F) :=
  fun | 0 => (tab c : S4.Idx → BitVec 32) | ⟨_ + 1, h⟩ => absurd h (Nat.not_lt.2 (Nat.le_add_left _ _))

theorem win1_bits (c : Dev nD) (i : grid0.Coords) :
    cc0_transform_1 k0_off1_inb numel1_S1 (tabs (F := Bits) c) i = ![clampPt (pt i) % 16 / 2, (c.val + clampPt (pt i) / 16 + 1) % 4] := by
  revert c
  exact forall_pt (P := fun i => ∀ c : Dev nD, cc0_transform_1 k0_off1_inb numel1_S1 (tabs (F := Bits) c) i
    = ![clampPt (pt i) % 16 / 2, (c.val + clampPt (pt i) / 16 + 1) % 4]) (by decide +kernel) i

theorem win1_eq (c : Dev nD) (i : grid0.Coords) :
    cc0_transform_1 k0_off1_inb numel1_S1 (tabs (F := F) c) i = ![clampPt (pt i) % 16 / 2, (c.val + clampPt (pt i) / 16 + 1) % 4] :=
  (show cc0_transform_1 k0_off1_inb numel1_S1 (tabs (F := F) c) i = cc0_transform_1 k0_off1_inb numel1_S1 (tabs (F := Bits) c) i from rfl).trans
    (win1_bits c i)

/-- The table of targets keeps every block of the right factor inside it. -/
theorem tabs_ok (c : Dev nD) : ok0 (tabs (F := F) c) := by
  intro i
  have hin : ∀ a, (cc0_transform_1 k0_off1_inb numel1_S1 (tabs (F := F) c) i a + 1) * S1024x1024.size a ≤ S8192x4096.size a := by
    rw [win1_eq]
    intro a
    have h := pt_lt i
    fin_cases a
    · show (clampPt (pt i) % 16 / 2 + 1) * 1024 ≤ 8192
      omega
    · show ((c.val + clampPt (pt i) / 16 + 1) % 4 + 1) * 1024 ≤ 4096
      omega
  exact ⟨hin, Or.inr (Affine.block_words_dvd (of_decide_eq_true rfl) (by decide))⟩

end Cert.KernelIdeal.Proof
-- ==== Proof.Region.lean ====
/-
  THE REGION'S DATA: the blocks the two windows hold at a point, the invariant between points, and the obligation of the body.
-/
module

public import proofs.«01_k».proof.Proof.Wins
public import Idealize.ShloMosaic.Lib.Pipeline.FrameBody

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-- The contents of the table as the region is entered with them, on every device. -/
def adm (c : Dev nD) : (pcfg0 (F := F)).Adm := ⟨tabs c, tabs_ok c⟩
abbrev adms : Dev nD → (p : Fin 1) → (pcfgs (F := F) p).Adm := fun c _ => adm c
abbrev cfgD (c : Dev nD) : Pipeline.Cfg sig Λ₀ := cfg0 (F := F) (adm c)

/-- A point's number among the grid's. -/
def nth (s : ℕ) : Fin grid0.N := ⟨min s 64, by rw [N_0]; omega⟩
theorem nth_val (t : Fin grid0.N) : nth t.val = t := by
  have h : t.val < 65 := lt_of_lt_of_eq t.isLt N_0
  exact Fin.ext (Nat.min_eq_left (by omega))
theorem pt_coords (t : Fin grid0.N) : pt (grid0.coords t) = t.val := by
  revert t; decide +kernel

variable (V : Dev nD → Valuation τ sig (Elt F))

/-- The block of the left factor at a point. -/
def xs : Staged F := fun c s => (((cfgD (F := F) c).win 0).blk (nth s)).view.read (Elt F) (V c main_arg0)
/-- The block of the right factor at a point. -/
def ws : Staged F := fun c s => (((cfgD (F := F) c).win 1).blk (nth s)).view.read (Elt F) (V c main_arg1)

/-- What every device exchanges, of the two factors on every device. -/
abbrev GV : Blocks F := Gv (xs V) (ws V)

/-- The communication's state before a point. -/
def CommAt (c : Dev nD) (s : ℕ) : sProp 𝕄 :=
  if s = 0 then Start c else if s = 65 then iprop(Done (GV V) c ∗ semVal (barCell c) 0)
  else iprop(Comm (GV V) c (ph 0 s) (ph 1 s) (ph 2 s) ∗ semVal (barCell c) 0)

/-- The invariant between points. -/
def PhiAt (c : Dev nD) (s : ℕ) : sProp 𝕄 :=
  iprop((∃ K, Pers (GV V) K c) ∗ CommAt V c s ∗ In (xs V) (ws V) c s)

/-- The region's data on a device. -/
def dat (c : Dev nD) : Pipeline.Dat τ (Elt F) Unit ℕ UU ℕ (cfgD (F := F) c) c where
  A := fun | 0 => V c main_arg0 | 1 => V c main_arg1 | ⟨_ + 2, h⟩ => absurd h (Nat.not_lt.2 (Nat.le_add_left _ _))
  after := fun
    | 0 => fun t => (((cfgD (F := F) c).win 0).blk t).view.read (Elt F) (V c main_arg0)
    | 1 => fun t => (((cfgD (F := F) c).win 1).blk t).view.read (Elt F) (V c main_arg1)
    | ⟨_ + 2, h⟩ => absurd h (Nat.not_lt.2 (Nat.le_add_left _ _))
  Φ t := PhiAt V c t.val
  q _ := fullShare
  owed t := owed c t.val

theorem before0 (c : Dev nD) (t : Fin grid0.N) (d) : (dat V c).before 0 t d = xs V c t.val := by
  rw [(dat V c).before_in_eq_fetched 0 rfl (fun _ => rfl) (fun _ _ _ => rfl) (fun _ => rfl) t d]
  unfold xs; rw [nth_val]; rfl
theorem before1 (c : Dev nD) (t : Fin grid0.N) (d) : (dat V c).before 1 t d = ws V c t.val := by
  rw [(dat V c).before_in_eq_fetched 1 rfl (fun _ => rfl) (fun _ _ _ => rfl) (fun _ => rfl) t d]
  unfold ws; rw [nth_val]; rfl
theorem after0 (c : Dev nD) (t : Fin grid0.N) : (dat V c).after 0 t = xs V c t.val := by
  unfold xs; rw [nth_val]; rfl
theorem after1 (c : Dev nD) (t : Fin grid0.N) : (dat V c).after 1 t = ws V c t.val := by
  unfold ws; rw [nth_val]; rfl

/-- What the body is handed of the communication and of what it owes, put together. -/
theorem gate_in (c : Dev nD) {s : ℕ} (h : s < 65) :
    iprop(CommAt V c s ∗ ∃ W, owes (c : Thread nD τ) (owed c s) W) ⊢ (Gate (GV V) c s false : sProp 𝕄) := by
  unfold CommAt Gate owed
  by_cases hs : s = 0
  · simp only [hs, if_true]
    unfold Before
    exact .rfl
  · simp only [hs, if_false, if_neg (show s ≠ 65 by omega)]
    unfold After
    iintro ⟨⟨Hc, Hv⟩, HO⟩
    isplitl [HO]; · iexact HO
    isplitl [Hc]; · iexact Hc
    iexact Hv

/-- What the body hands back, taken apart. -/
theorem gate_out (c : Dev nD) (s : ℕ) :
    (Out (xs V) (ws V) c s : sProp 𝕄) ⊢ iprop(CommAt V c (s + 1) ∗ ∃ W, owes (c : Thread nD τ) (owed c (s + 1)) W) := by
  unfold Out CommAt owed
  by_cases hs : s = 64
  · simp only [hs, if_true, if_neg (show (64 + 1 : ℕ) ≠ 0 by decide), fini_true]
    iintro ⟨⟨HO, HD⟩, Hv⟩
    isplitr [HO]
    · isplitl [HD]; · iexact HD
      iexact Hv
    · iexact HO
  · simp only [hs, if_false, if_neg (show s + 1 ≠ 0 by omega), if_neg (show s + 1 ≠ 65 by omega), Bool.false_eq_true, fini_false]
    iintro ⟨⟨HO, HD⟩, Hv⟩
    isplitr [HO]
    · isplitl [HD]; · iexact HD
      iexact Hv
    · iexact HO

/-- The staging buffer of a window at a point. -/
abbrev stg (c : Dev nD) (t : Fin grid0.N) (w : Fin 2) : Memref sig .tc .vmem S1024x1024 .bf16 :=
  match w with
  | 0 => spec0_0.stage ((cfgD (F := F) c).slots t 0)
  | 1 => spec0_1.stage ((cfgD (F := F) c).slots t 1)

set_option backward.isDefEq.respectTransparency.types false in
/-- The obligation of the body, at every point. -/
theorem hbody (c : Dev nD) : Pipeline.BodyObligation (dat V c) defs₀ 𝒱₀ () Set.univ := fun t => by
  rw [bigSep_W0, bigSep_W0]
  have hlt : t.val < 65 := lt_of_lt_of_eq t.isLt N_0
  have hpt := pt_coords t
  have key (K : GSem nD τ sig → ℕ) := body_step (F := F) (xs V) (ws V) K c (grid0.coords t) (stg (F := F) c t 0) (stg (F := F) c t 1)
    (Memref.isWhole_whole _) (hstage0_0 (((cfgD (F := F) c).slots t 0).cast nbuf0_0)) (hstage0_1 (((cfgD (F := F) c).slots t 1).cast nbuf0_1)) (Memref.isWhole_whole _) (Memref.isWhole_whole _)
    (Memref.isWhole_whole _) (Memref.isWhole_whole _) (Memref.isWhole_whole _) (Memref.isWhole_whole _)
    (X := xs V c t.val) (W := ws V c t.val) (by rw [hpt]) (by rw [hpt])
  rw [hpt] at key
  have hin : iprop((dat V c).Φ t.castSucc ∗ (dat V c).owesAt () t.castSucc
      ∗ (∃ d, owns (c : Thread nD τ) (stg (F := F) c t 0) fullShare ((dat V c).before 0 t d))
      ∗ ∃ d, owns (c : Thread nD τ) (stg (F := F) c t 1) fullShare ((dat V c).before 1 t d))
      ⊢ iprop(∃ K, Pers (GV V) K c ∗ Pers (GV V) K c ∗ Gate (GV V) c t.val false ∗ In (xs V) (ws V) c t.val
        ∗ owns (c : Thread nD τ) (stg (F := F) c t 0) fullShare (xs V c t.val) ∗ owns (c : Thread nD τ) (stg (F := F) c t 1) fullShare (ws V c t.val)) := by
    simp only [before0, before1]
    rw [show (dat V c).Φ t.castSucc = PhiAt V c t.val from rfl]
    unfold PhiAt
    iintro ⟨⟨⟨%K, #HP⟩, HC, HI⟩, ⟨%W, -, HO⟩, ⟨%d0, H0⟩, %d1, H1⟩
    iexists K
    isplitr; · iexact HP
    isplitr; · iexact HP
    isplitl [HC HO]
    · iapply (gate_in V c hlt) $$ [HC HO]
      isplitl [HC]; · iexact HC
      iexists W; iexact HO
    isplitl [HI]; · iexact HI
    isplitl [H0]; · iexact H0
    iexact H1
  have hout (K : GSem nD τ sig → ℕ) : iprop(Pers (GV V) K c ∗ Out (xs V) (ws V) c t.val ∗ In (xs V) (ws V) c (t.val + 1)
        ∗ owns (c : Thread nD τ) (stg (F := F) c t 0) fullShare (xs V c t.val) ∗ owns (c : Thread nD τ) (stg (F := F) c t 1) fullShare (ws V c t.val))
      ⊢ iprop((dat V c).Φ t.succ ∗ (dat V c).owesAt () t.succ
      ∗ owns (c : Thread nD τ) (stg (F := F) c t 0) fullShare ((dat V c).after 0 t)
      ∗ owns (c : Thread nD τ) (stg (F := F) c t 1) fullShare ((dat V c).after 1 t)) := by
    rw [after0, after1, show (dat V c).Φ t.succ = PhiAt V c (t.val + 1) from rfl]
    unfold PhiAt
    iintro ⟨#HP, HO, HI, H0, H1⟩
    ihave HC := (gate_out V c t.val) $$ HO
    icases HC with ⟨HC, %W, HO⟩
    isplitl [HC HI]
    · isplitr; · iexists K; iexact HP
      isplitl [HC]; · iexact HC
      iexact HI
    isplitl [HO]
    · iexists W; isplitr; · ipureintro; exact fun _ _ => Or.inl trivial
      iexact HO
    isplitl [H0]; · iexact H0
    iexact H1
  refine hin.trans (exists_elim fun K => ?_)
  exact (BIClass.sep_mono .rfl (key K)).trans ((wp_frame_l _ _ _).trans (wp_mono _ _ _ fun _ => hout K))

end Cert.KernelIdeal.Proof
-- ==== Proof.Open.lean ====
/-
  OPENING THE CELLS: the rights, tokens and credit a device holds before the region, and what they become when the counters of the
  region's own semaphores are handed over at its entry.
-/
module

public import proofs.«01_k».proof.Proof.Region

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (c : Dev nD)

/-- The rights to open the device's seven cells. -/
def Opens : sProp 𝕄 :=
  iprop(openTok ER (sendCell c 0) ∗ openTok ER (sendCell c 1) ∗ openTok ER (sendCell c 2)
    ∗ openTok ER (recvCell c 0) ∗ openTok ER (recvCell c 1) ∗ openTok ER (recvCell c 2) ∗ openTok ER (copyCell c))
/-- The duties the device performs. -/
def Toks : sProp 𝕄 :=
  iprop(dutyTok ER (barCell (src c 0)) 0 0 ∗ dutyTok ER (barCell (src c 1)) 0 1 ∗ dutyTok ER (barCell (src c 2)) 0 2
    ∗ dutyTok ER (sendCell c 0) 0 0 ∗ dutyTok ER (sendCell c 1) 0 0 ∗ dutyTok ER (sendCell c 2) 0 0
    ∗ dutyTok ER (recvCell (tgt c 0) 0) 0 0 ∗ dutyTok ER (recvCell (tgt c 1) 1) 0 0 ∗ dutyTok ER (recvCell (tgt c 2) 2) 0 0
    ∗ dutyTok ER (copyCell c) 0 0)
/-- The credit it waits with. -/
def Creds : sProp 𝕄 :=
  iprop(cred (tallyAt (barCell c) () 3) ∗ cred (tallyAt (recvCell c 0) () N) ∗ cred (tallyAt (recvCell c 1) () N) ∗ cred (tallyAt (recvCell c 2) () N))
/-- What a device holds of the protocol before the region. -/
def Deal : sProp 𝕄 := iprop(atPos ER (barCell c) 0 ∅ 0 ∗ Opens c ∗ Toks c ∗ Creds c)

/-- The region's own semaphores. -/
abbrev osem (k : Fin 7) : SemLoc sig := .dma (scSem k)
theorem ownSems_eq : (Pipeline.ownSems0 osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ semVal (copyCell c) 0) := by
  unfold Pipeline.ownSems0
  rw [bigSep_univ_eq_bigSepL [(0 : Fin 7), 1, 2, 3, 4, 5, 6] (by decide) (by decide)]
  rfl

/-- What enters the invariant of the communication, the result buffer and the send buffer apart. -/
def Begin : sProp 𝕄 :=
  iprop((Duty c 0 ∗ Duty c 1 ∗ Duty c 2) ∗ RecvSt c
    ∗ (atPos ER (barCell c) 0 ∅ 0 ∗ cred (tallyAt (barCell c) () 3))
    ∗ (dutyTok ER (barCell (src c 0)) 0 0 ∗ dutyTok ER (barCell (src c 1)) 0 1 ∗ dutyTok ER (barCell (src c 2)) 0 2))
theorem start_intro : iprop(Begin c ∗ (∃ f, outPt c Finset.univ f) ∗ ∃ f, sbPt c Finset.univ f) ⊢ (Start c : sProp 𝕄) := by
  unfold Begin Start
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

variable (G : Blocks F)

/-- One cell opened. -/
theorem open_one {K : GSem nD τ sig → ℕ} {g : GSem nD τ sig} (h : g ∈ allCells) :
    iprop(records G K ∗ openTok ER g ∗ semVal g 0) ⊢ (|={Set.univ}=> (atPos ER g 0 ∅ 0 ∗ reached ER g 0) : sProp 𝕄) := by
  refine (BIClass.sep_mono (records_inv G h) .rfl).trans ?_
  exact Rounds.cell_open ER (Rd G) (Set.mem_univ (K g))

theorem opened (K : GSem nD τ sig → ℕ) :
    iprop(records G K ∗ Deal c ∗ Pipeline.ownSems0 osem c ∗ levAts L lv)
      ⊢ (|={Set.univ}=> (Pers G K c ∗ Begin c) : sProp 𝕄) := by
  rw [ownSems_eq]
  unfold Deal Opens Toks Creds
  iintro ⟨#HR, ⟨Hat, ⟨o0, o1, o2, o3, o4, o5, o6⟩, ⟨b0, b1, b2, s0, s1, s2, r0, r1, r2, t⟩, ⟨cb, c0, c1, c2⟩⟩, ⟨v0, v1, v2, v3, v4, v5, v6⟩, #HL⟩
  imod (open_one G (K := K) (Finset.mem_union_right _ (mem_send c 0))) $$ [o0 v0] with ⟨a0, #h0⟩
  · isplitr; · iexact HR
    isplitl [o0] <;> iassumption
  imod (open_one G (K := K) (Finset.mem_union_right _ (mem_send c 1))) $$ [o1 v1] with ⟨a1, #h1⟩
  · isplitr; · iexact HR
    isplitl [o1] <;> iassumption
  imod (open_one G (K := K) (Finset.mem_union_right _ (mem_send c 2))) $$ [o2 v2] with ⟨a2, #h2⟩
  · isplitr; · iexact HR
    isplitl [o2] <;> iassumption
  imod (open_one G (K := K) (Finset.mem_union_right _ (mem_recv c 0))) $$ [o3 v3] with ⟨a3, #h3⟩
  · isplitr; · iexact HR
    isplitl [o3] <;> iassumption
  imod (open_one G (K := K) (Finset.mem_union_right _ (mem_recv c 1))) $$ [o4 v4] with ⟨a4, #h4⟩
  · isplitr; · iexact HR
    isplitl [o4] <;> iassumption
  imod (open_one G (K := K) (Finset.mem_union_right _ (mem_recv c 2))) $$ [o5 v5] with ⟨a5, #h5⟩
  · isplitr; · iexact HR
    isplitl [o5] <;> iassumption
  imod (open_one G (K := K) (Finset.mem_union_right _ (mem_copy c))) $$ [o6 v6] with ⟨a6, #h6⟩
  · isplitr; · iexact HR
    isplitl [o6] <;> iassumption
  imodintro
  isplitr
  · unfold Pers Reach
    isplitr; · iexact HR
    isplitr
    · isplitr
      · isplitr; · iexact h0
        isplitr; · iexact h1
        iexact h2
      isplitr
      · isplitr; · iexact h3
        isplitr; · iexact h4
        iexact h5
      iexact h6
    iexact HL
  unfold Begin Duty RecvSt
  isplitl [a0 a1 a2 s0 s1 s2 r0 r1 r2]
  · isplitl [a0 s0 r0]
    · isplitl [s0]; · iexact s0
      isplitl [r0]; · iexact r0
      iexact a0
    isplitl [a1 s1 r1]
    · isplitl [s1]; · iexact s1
      isplitl [r1]; · iexact r1
      iexact a1
    isplitl [s2]; · iexact s2
    isplitl [r2]; · iexact r2
    iexact a2
  isplitl [a3 a4 a5 a6 c0 c1 c2 t]
  · isplitl [c0 a3]; · isplitl [c0] <;> iassumption
    isplitl [c1 a4]; · isplitl [c1] <;> iassumption
    isplitl [c2 a5]; · isplitl [c2] <;> iassumption
    isplitl [t] <;> iassumption
  isplitl [Hat cb]; · isplitl [Hat] <;> iassumption
  isplitl [b0]; · iexact b0
  isplitl [b1] <;> iassumption

end Cert.KernelIdeal.Proof
-- ==== Proof.Segment.lean ====
/-
  THE REGION AS A SEGMENT: what it is entered with and left with, around the obligation of the body.
-/
module

public import proofs.«01_k».proof.Proof.Open
public import Idealize.ShloMosaic.Lib.Pipeline.Frame
public import proofs.«01_k».proof.Proof.Gen.KernelIdeal.Regions

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (V : Dev nD → Valuation τ sig (Elt F)) (c : Dev nD)

/-- The scoped buffers, all touched whole. -/
def Scoped : sProp 𝕄 :=
  iprop((∃ f, accPt c Finset.univ f) ∗ (∃ f, xbPt c Finset.univ f) ∗ (∃ f, wbPt c Finset.univ f) ∗ ∃ f, sbPt c Finset.univ f)
theorem scoped_eq : (Pipeline.scopedRest (Ix := Unit) (Name := ℕ) (U := UU) (Lvl := ℕ) (Val := Elt F) spec0 c : sProp 𝕄) = Scoped c := by
  rw [scopedRest0_eq]; rfl

variable (xs ws : Staged F)
/-- Before the first point the three working buffers hold anything. -/
theorem in_first :
    iprop(TabSt c ∗ (∃ f, accPt c Finset.univ f) ∗ (∃ f, xbPt c Finset.univ f) ∗ ∃ f, wbPt c Finset.univ f) ⊢ (In xs ws c 0 : sProp 𝕄) := by
  unfold In XbSt WbSt AccSt
  iintro ⟨HT, ⟨%fa, Ha⟩, ⟨%fx, Hx⟩, %fw, Hw⟩
  ihave Ha := (acc_split c fa) $$ Ha
  ihave Hx := (xb_split c fx) $$ Hx
  ihave Hw := (wb_split c fw) $$ Hw
  icases Ha with ⟨Ha0, Ha1⟩
  icases Hx with ⟨Hx0, Hx1⟩
  icases Hw with ⟨Hw0, Hw1⟩
  isplitl [HT]; · iexact HT
  isplitl [Hx0 Hx1]
  · isplitl [Hx0]
    · iexists fx; iexact Hx0
    · iexists fx; isplitr; · ipureintro; intro h; omega
      iexact Hx1
  isplitl [Hw0 Hw1]
  · isplitl [Hw0]
    · iexists fw; iexact Hw0
    · iexists fw; isplitr; · ipureintro; intro h; omega
      iexact Hw1
  isplitl [Ha0]
  · iexists fa; isplitr; · ipureintro; intro h; omega
    iexact Ha0
  · iexists fa; isplitr; · ipureintro; intro h; omega
    iexact Ha1

/-- After the last point they are whole again. -/
theorem in_last :
    (In xs ws c 65 : sProp 𝕄) ⊢ iprop(TabSt c ∗ (∃ f, accPt c Finset.univ f) ∗ (∃ f, xbPt c Finset.univ f) ∗ ∃ f, wbPt c Finset.univ f) := by
  unfold In XbSt WbSt AccSt
  iintro ⟨HT, ⟨⟨%fx, Hx⟩, %gx, -, Hx'⟩, ⟨⟨%fw, Hw⟩, %gw, -, Hw'⟩, ⟨%fa, -, Ha⟩, %ga, -, Ha'⟩
  isplitl [HT]; · iexact HT
  isplitl [Ha Ha']
  · iapply (acc_join c fa ga) $$ [Ha Ha']
    isplitl [Ha]
    · iexact Ha
    · iexact Ha'
  isplitl [Hx Hx']
  · iapply (xb_join c gx fx) $$ [Hx Hx']
    isplitl [Hx']
    · iexact Hx'
    · iexact Hx
  · iapply (wb_join c gw fw) $$ [Hw Hw']
    isplitl [Hw']
    · iexact Hw'
    · iexact Hw

/-! ## The unscoped buffers the region touches -/

/-- The two factors, the table and the result. -/
def touched : Finset (DevRef τ sig) := {Proc.devRef .tc main_arg0, Proc.devRef .tc main_arg1, Proc.devRef .tc main_v7, Proc.devRef .tc main_v9}
theorem touched_sub : touched ⊆ Pipeline.ucRefs τ sig := by decide +kernel

theorem held_touched (W : Valuation τ sig (Elt F)) :
    (StableHlo.held (c : Thread nD τ) touched W : sProp 𝕄)
      = iprop((((c : Thread nD τ).loc main_arg0) ↦{fullShare} W main_arg0) ∗ (((c : Thread nD τ).loc main_arg1) ↦{fullShare} W main_arg1)
        ∗ (((c : Thread nD τ).loc main_v7) ↦{fullShare} W main_v7) ∗ outPt c Finset.univ (W main_v9)) := by
  unfold StableHlo.held touched
  rw [bigSep_insert (by decide), bigSep_insert (by decide), bigSep_insert (by decide), bigSep_singleton]
  rfl

/-- The contents the region leaves: the result's are the exchanged blocks', the rest as before. -/
def Vout : Dev nD → Valuation τ sig (Elt F) := fun c => Function.update (V c) (Proc.devRef .tc main_v9) (outF (GV V) c)
theorem vout_v9 : Vout V c main_v9 = outF (GV V) c := Function.update_self _ _ _
theorem vout_of (b : DevRef τ sig) (h : b ≠ Proc.devRef .tc main_v9) : Vout V c b = V c b := Function.update_of_ne h _ _

theorem rest_out : (StableHlo.held (c : Thread nD τ) (Pipeline.ucRefs τ sig \ touched) (Vout V c) : sProp 𝕄)
    = StableHlo.held (c : Thread nD τ) (Pipeline.ucRefs τ sig \ touched) (V c) :=
  StableHlo.held_congr _ fun b hb => vout_of V c b fun h =>
    (Finset.mem_sdiff.mp hb).2 (h ▸ (by decide : Proc.devRef (τ := τ) .tc main_v9 ∈ touched))

theorem arrays_dat (W : (w : Fin 2) → Buf (Elt F) (((cfgD (F := F) c).win w).arr.view.loc (c : Thread nD τ))) :
    ((dat V c).arrays W : sProp 𝕄) = iprop((((c : Thread nD τ).loc main_arg0) ↦{fullShare} W 0) ∗ (((c : Thread nD τ).loc main_arg1) ↦{fullShare} W 1)) := by
  unfold Pipeline.Dat.arrays
  rw [bigSep_W0, (arr_whole0 0).set_eq_univ, (arr_whole0 1).set_eq_univ]
  rfl

theorem pref_dat : (Pipeline.prefHeld (Ix := Unit) (Name := ℕ) (U := UU) (Lvl := ℕ) pre0 c (fun _ => fullShare) (tabs (F := F) c) : sProp 𝕄)
    = TabSt c := by
  unfold Pipeline.prefHeld TabSt
  rw [bigSep_univ_eq_bigSepL [(0 : Fin 1)] (by decide) (by decide)]
  rfl

end Cert.KernelIdeal.Proof
-- ==== Proof.Record.lean ====
/-
  THE REGION'S RECORD: its entry, its two ends and its exit, over what each device holds around it.
-/
module

public import proofs.«01_k».proof.Proof.Segment

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (V : Dev nD → Valuation τ sig (Elt F))

abbrev dats : (p : Fin 1) → (c : Dev nD) → Pipeline.Dat τ (Elt F) Unit ℕ UU ℕ (Pipeline.pinD (pcfgs (F := F)) adms c p) c :=
  fun _ c => dat V c

/-- What rides beside the unscoped buffers before the region, -/
def Rest (c : Dev nD) : sProp 𝕄 := iprop((∃ K, records (GV V) K) ∗ Deal c ∗ ∃ W, owes (c : Thread nD τ) (O₀ c) W)
/-- and the buffers and it, after. -/
def Last (c : Dev nD) : sProp 𝕄 := iprop(StableHlo.held (c : Thread nD τ) (Pipeline.ucRefs τ sig) (Vout V c) ∗ semVal (barCell c) 0)

theorem dev_eq (W : Valuation τ sig (Elt F)) (c : Dev nD) (hW : W main_v7 = (tab c : S4.Idx → BitVec 32)) :
    ((((c : Thread nD τ).loc main_v7) ↦{fullShare} W main_v7) : sProp 𝕄) = TabSt c := by
  rw [hW]; rfl

theorem entry (hV : ∀ c, V c main_v7 = (tab c : S4.Idx → BitVec 32)) (c : Dev nD) :
    iprop((StableHlo.held (c : Thread nD τ) (Pipeline.ucRefs τ sig) (V c) ∗ Rest V c) ∗ Pipeline.ownSems0 osem c ∗ levAts L lv)
      ⊢ (|={Set.univ}=> iprop((dat V c).arrays ((dat V c).arrAt · 0) ∗ Pipeline.prefHeld pre0 c (fun _ => fullShare) (tabs (F := F) c)
        ∗ (dat V c).owesAt () 0 ∗ ((∃ K, Pers (GV V) K c) ∗ Begin c ∗ ∃ f, outPt c Finset.univ f)
        ∗ StableHlo.held (c : Thread nD τ) (Pipeline.ucRefs τ sig \ touched) (V c)) : sProp 𝕄) := by
  rw [StableHlo.held_sub_split (c : Thread nD τ) touched_sub (V c), held_touched, dev_eq (V c) c (hV c), arrays_dat, pref_dat]
  unfold Rest
  iintro ⟨⟨⟨⟨H0, H1, H7, H9⟩, Hz⟩, ⟨%K, #HR⟩, HD, ⟨%W, HO⟩⟩, Hs, #HL⟩
  imod (opened c (GV V) K) $$ [HD Hs] with ⟨#HP, HB⟩
  · isplitr; · iexact HR
    isplitl [HD]; · iexact HD
    isplitl [Hs]; · iexact Hs
    iexact HL
  imodintro
  isplitl [H0 H1]
  · isplitl [H0]; · iexact H0
    iexact H1
  isplitl [H7]; · iexact H7
  isplitl [HO]
  · iexists W; isplitr; · ipureintro; exact fun _ _ => Or.inl trivial
    iexact HO
  isplitl [HB H9]
  · isplitr; · iexists K; iexact HP
    isplitl [HB]; · iexact HB
    iexists _; iexact H9
  iexact Hz

theorem first (c : Dev nD) :
    iprop(((∃ K, Pers (GV V) K c) ∗ Begin c ∗ ∃ f, outPt c Finset.univ f) ∗ Pipeline.prefHeld pre0 c (fun _ => fullShare) (tabs (F := F) c)
        ∗ Pipeline.scopedRest spec0 c) ⊢ (PhiAt V c 0 : sProp 𝕄) := by
  rw [pref_dat, scoped_eq]
  unfold PhiAt CommAt Scoped
  simp only [if_true]
  iintro ⟨⟨HP, HB, H9⟩, HT, Ha, Hx, Hw, Hs⟩
  isplitl [HP]; · iexact HP
  isplitl [HB H9 Hs]
  · iapply (start_intro c) $$ [HB H9 Hs]
    isplitl [HB]; · iexact HB
    isplitl [H9]; · iexact H9
    iexact Hs
  iapply (in_first c (xs V) (ws V)) $$ [HT Ha Hx Hw]
  isplitl [HT]; · iexact HT
  isplitl [Ha]; · iexact Ha
  isplitl [Hx]; · iexact Hx
  iexact Hw

theorem last (c : Dev nD) :
    (PhiAt V c 65 : sProp 𝕄)
      ⊢ iprop((outPt c Finset.univ (outF (GV V) c) ∗ TabSt c ∗ semVal (barCell c) 0) ∗ Pipeline.ownSems0 osem c ∗ Pipeline.scopedRest spec0 c) := by
  rw [scoped_eq, ownSems_eq]
  unfold PhiAt CommAt Scoped Done
  simp only [if_true, if_neg (show (65 : ℕ) ≠ 0 by decide)]
  iintro ⟨-, ⟨⟨⟨s0, s1, s2⟩, ⟨r0, r1, r2⟩, t, H9, Hs⟩, Hb⟩, HI⟩
  ihave HI := (in_last c (xs V) (ws V)) $$ HI
  icases HI with ⟨HT, Ha, Hx, Hw⟩
  isplitl [H9 HT Hb]
  · isplitl [H9]; · iexact H9
    isplitl [HT]; · iexact HT
    iexact Hb
  isplitl [s0 s1 s2 r0 r1 r2 t]
  · isplitl [s0]; · iexact s0
    isplitl [s1]; · iexact s1
    isplitl [s2]; · iexact s2
    isplitl [r0]; · iexact r0
    isplitl [r1]; · iexact r1
    isplitl [r2]; · iexact r2
    iexact t
  isplitl [Ha]; · iexact Ha
  isplitl [Hx]; · iexact Hx
  isplitl [Hw]; · iexact Hw
  iexact Hs

theorem leave (hV : ∀ c, V c main_v7 = (tab c : S4.Idx → BitVec 32)) (c : Dev nD) (n : ℕ) :
    iprop((dat V c).arrays ((dat V c).arrAt · n) ∗ (dat V c).owesAt () (Fin.last grid0.N) ∗ (outPt c Finset.univ (outF (GV V) c) ∗ TabSt c ∗ semVal (barCell c) 0)
        ∗ StableHlo.held (c : Thread nD τ) (Pipeline.ucRefs τ sig \ touched) (V c))
      ⊢ (|={Set.univ}=> iprop(Last V c ∗ ∃ W, owes (c : Thread nD τ) (0 : CellTallies nD τ sig Unit) W) : sProp 𝕄) := by
  unfold Last
  rw [StableHlo.held_sub_split (c : Thread nD τ) touched_sub (Vout V c), held_touched, rest_out, arrays_dat, vout_v9,
    vout_of V c main_arg0 (by decide), vout_of V c main_arg1 (by decide), vout_of V c main_v7 (by decide), dev_eq (V c) c (hV c),
    (dat V c).arrAt_in 0 rfl, (dat V c).arrAt_in 1 rfl,
    show (dat V c).owesAt () (Fin.last grid0.N) = iprop(∃ W, ⌜↑W ⊆ (dat V c).bound () (Fin.last grid0.N)⌝ ∗ owes (c : Thread nD τ) (owed c 65) W) from rfl,
    show owed c 65 = 0 from owedR_late c (by decide)]
  iintro ⟨⟨H0, H1⟩, ⟨%W, -, HO⟩, ⟨H9, HT, Hb⟩, Hz⟩
  imodintro
  isplitr [HO]
  · isplitr [Hb]
    · isplitr [Hz]
      · isplitl [H0]; · iexact H0
        isplitl [H1]; · iexact H1
        isplitl [HT]; · iexact HT
        iexact H9
      iexact Hz
    iexact Hb
  iexists W; iexact HO

theorem own_facts : Pipeline.OwnSemFacts spec0 osem := by decide +kernel
theorem stage_low : ∀ (w : Fin 2) (s : Fin (spec0 w).nbuf), ((spec0 w).sem s).val < 7 := by decide +kernel

set_option backward.isDefEq.respectTransparency.types false in
/-- The region. -/
def region (hV : ∀ c, V c main_v7 = (tab c : S4.Idx → BitVec 32)) :
    Pipeline.PerCore.RegionSeg (pcfgs (F := F)) adms (dats V) () defs₀ 𝒱₀ L lv 0 where
  win := winFacts0.to₀
  block_pos := block_pos0
  stage_whole := stage_whole0
  K := Fin 7
  osem := osem
  ho := own_facts
  hbody c := (hbody V c).loose
  hwaits c := Pipeline.PerCore.cellsWaits_intro _ (dats V) () 0 c fun w s t => mayWait_stage c _ (stage_low w s) _
  pre c := iprop(StableHlo.held (c : Thread nD τ) (Pipeline.ucRefs τ sig) (V c) ∗ Rest V c)
  post c := iprop(Last V c ∗ ∃ W, owes (c : Thread nD τ) (0 : CellTallies nD τ sig Unit) W)
  X c := iprop((∃ K, Pers (GV V) K c) ∗ Begin c ∗ ∃ f, outPt c Finset.univ f)
  Y c := iprop(outPt c Finset.univ (outF (GV V) c) ∗ TabSt c ∗ semVal (barCell c) 0)
  Z c := StableHlo.held (c : Thread nD τ) (Pipeline.ucRefs τ sig \ touched) (V c)
  hentry c := entry V hV c
  hin c := first V c
  hout c := last V c
  hexit c := leave V hV c _

end Cert.KernelIdeal.Proof
-- ==== Proof.Table.lean ====
/-
  THE TABLE of the devices a chunk goes to, as the host computes it: word `i` of device `c` is the device `i + 1` places on.
-/
module

public import proofs.«01_k».proof.Proof.Record
@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-- The table's words before the remainder: the device's place plus 1, 2, 3 and 0. -/
def sumV (c : Dev nD) : IVec S4 32 :=
  addi (broadcastInDim S4 ![] bcast_S_S4 (Host.remui (Host.divui (constantI S_ 32 (Dev.word c)) (constantI S_ 32 1#32)) (constantI S_ 32 4#32)))
    (fun i => lit0 (S4.rowMajor i))
/-- The remainder as the host computes it, with its correction of the sign. -/
def remV (a : IVec S4 32) (b : IVec S_ 32) : IVec S4 32 :=
  let d : IVec S_ 32 := select (cmpi .eq b (constantI S_ 32 0#32)) (constantI S_ 32 1#32) b
  let q : IVec S4 32 := Host.remsi a (broadcastInDim S4 ![] bcast_S_S4 d)
  select (andi (cmpi .ne (cmpi .slt q (broadcastInDim S4 ![] bcast_S_S4 (constantI S_ 32 0#32)))
      (broadcastInDim S4 ![] bcast_S_S4 (cmpi .slt d (constantI S_ 32 0#32))))
      (cmpi .ne q (broadcastInDim S4 ![] bcast_S_S4 (constantI S_ 32 0#32))))
    (addi q (broadcastInDim S4 ![] bcast_S_S4 d)) q

variable (W : Valuation τ sig (Elt F)) (c : Dev nD)
theorem four_eq : (StableHlo.after (hostOps0 c) W main_c_2 : S_.Idx → BitVec 32) = constantI S_ 32 4#32 := by
  after_results
theorem sum_eq : (StableHlo.after (hostOps0 c) W main_v6 : S4.Idx → BitVec 32) = sumV c := by
  after_results
  rfl
theorem rem_eq : (StableHlo.after hostOps0_1 W main_v7 : S4.Idx → BitVec 32) = remV (W main_v6) (W main_c_2) := by
  after_results
  simp only [StableHlo.TRef.ofBuf_toBuf]
  rfl
theorem words : ∀ (c : Dev nD) (i : S4.Idx), remV (sumV c) (constantI S_ 32 4#32) i = tab c i := by decide +kernel

variable (m : (ℓ : Loc nD τ sig) → Buf (Elt F) ℓ)
/-- Device `c`'s table, as the host leaves it. -/
theorem table (c : Dev nD) : V3 m c main_v7 = (tab c : S4.Idx → BitVec 32) := by
  refine (V3_of m c main_v7 (by decide)).trans ((rem_eq _).trans ?_)
  rw [show (V1 m c main_v6 : S4.Idx → BitVec 32) = sumV c from sum_eq _ c, show (V1 m c main_c_2 : S_.Idx → BitVec 32) = constantI S_ 32 4#32 from four_eq _ c]
  exact funext (words c)
/-- The arguments reach the region as launched. -/
theorem arg0_kept (c : Dev nD) : V3 m c main_arg0 = m ((c : Thread nD τ).loc main_arg0) :=
  (V3_of m c main_arg0 (by decide)).trans ((V2_of m c main_arg0 (by decide)).trans (V1_of m c main_arg0 (by decide)))
theorem arg1_kept (c : Dev nD) : V3 m c main_arg1 = m ((c : Thread nD τ).loc main_arg1) :=
  (V3_of m c main_arg1 (by decide)).trans ((V2_of m c main_arg1 (by decide)).trans (V1_of m c main_arg1 (by decide)))

end Cert.KernelIdeal.Proof
-- ==== Proof.Deal.lean ====
/-
  WHAT THE LAUNCH DEALS: every cell's invariant, each device's place at its barrier, its rights to open its seven completion
  cells, the tokens of the duties it performs, wherever they are, and the credit it waits with.
-/
module

public import proofs.«01_k».proof.Proof.Table

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-! ## The tokens -/

/-- The ten duties at a device's own cells: three at its barrier, one at each completion cell. -/
abbrev tokSem (k : Fin 10) : SemLoc sig := if k.val < 3 then .reg barS else .dma (scSem ⟨k.val - 3, by have := k.isLt; omega⟩)
abbrev tokDuty (k : Fin 10) : Fin 3 := if h : k.val < 3 then ⟨k.val, h⟩ else 0
theorem tok_inj : Function.Injective (fun k : Fin 10 => (tokSem k, tokDuty k)) := by decide
def allToks : Finset (GSem nD τ sig × ℕ × Fin 3) :=
  Finset.univ.map ⟨fun p : Dev nD × Fin 10 => (((p.1 : Thread nD τ), tokSem p.2), 0, tokDuty p.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩
/-- Where they are first. -/
def Minted (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0
    ∗ dutyTok ER (copyCell c) 0 0)
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ
theorem allToks_eq : bigSep allToks (fun x => (dutyTok ER x.1 x.2.1 x.2.2 : sProp 𝕄)) = bigSep Finset.univ fun c : Dev nD => Minted c := by
  unfold allToks; rw [bigSep_map, bigSep_univ_prod]
  exact bigSep_congr fun c _ => by unfold Minted; rw [bigSep_ten]; rfl
/-- Each goes to the device that performs the duty. -/
theorem toks_dealt : (bigSep Finset.univ fun c : Dev nD => (Minted c : sProp 𝕄)) ⊢ bigSep Finset.univ fun c : Dev nD => Toks c := by
  unfold Minted Toks
  simp only [bigSep_sep']
  rw [bigSep_univ_equiv (hop 0).symm (fun c : Dev nD => (dutyTok ER (barCell c) 0 0 : sProp 𝕄)),
    bigSep_univ_equiv (hop 1).symm (fun c : Dev nD => (dutyTok ER (barCell c) 0 1 : sProp 𝕄)),
    bigSep_univ_equiv (hop 2).symm (fun c : Dev nD => (dutyTok ER (barCell c) 0 2 : sProp 𝕄)),
    bigSep_univ_equiv (hop 0) (fun c : Dev nD => (dutyTok ER (recvCell c 0) 0 0 : sProp 𝕄)),
    bigSep_univ_equiv (hop 1) (fun c : Dev nD => (dutyTok ER (recvCell c 1) 0 0 : sProp 𝕄)),
    bigSep_univ_equiv (hop 2) (fun c : Dev nD => (dutyTok ER (recvCell c 2) 0 0 : sProp 𝕄))]
  exact BI.Entails.refl _

/-! ## The credit -/

theorem due_recv (r : Fin 3) (c : Dev nD) :
    (Pipeline.launchCred (fun d => tallyAt (recvCell (tgt d r) r) () N) c : sProp 𝕄) ⊢ cred (tallyAt (recvCell c r) () N) :=
  Pipeline.launchCred_tallyAt (.dma (recvS r)) (fun d => tgt d r) (fun d => src d r) (fun d => tgt_src d r) (fun d => src_tgt d r) () N c
theorem due_bar (j : Fin 3) (c : Dev nD) :
    (Pipeline.launchCred (fun d => tallyAt (barCell (src d j)) () 1) c : sProp 𝕄) ⊢ cred (tallyAt (barCell c) () 1) :=
  Pipeline.launchCred_tallyAt (.reg barS) (fun d => src d j) (fun d => tgt d j) (fun d => src_tgt d j) (fun d => tgt_src d j) () 1 c
theorem O₀_eq : (O₀ : Dev nD → CellTallies nD τ sig Unit) = fun d => (((((tallyAt (recvCell (tgt d 2) 2) () N + tallyAt (recvCell (tgt d 1) 1) () N)
    + tallyAt (recvCell (tgt d 0) 0) () N) + tallyAt (barCell (src d 0)) () 1) + tallyAt (barCell (src d 1)) () 1) + tallyAt (barCell (src d 2)) () 1) := by
  funext d
  unfold O₀ owedR
  rfl
theorem creds (c : Dev nD) : (Pipeline.launchCred O₀ c : sProp 𝕄) ⊢ Creds c := by
  rw [O₀_eq, Pipeline.launchCred_add, Pipeline.launchCred_add, Pipeline.launchCred_add, Pipeline.launchCred_add, Pipeline.launchCred_add]
  unfold Creds
  rw [show (tallyAt (barCell c) () 3 : CellTallies nD τ sig Unit) = (tallyAt (barCell c) () 1 + tallyAt (barCell c) () 1) + tallyAt (barCell c) () 1 from by
    rw [tallyAt_add, tallyAt_add]]
  iintro ⟨⟨⟨⟨⟨H2, H1⟩, H0⟩, B0⟩, B1⟩, B2⟩
  isplitl [B0 B1 B2]
  · iapply (cred_add _ _).2
    isplitl [B0 B1]
    · iapply (cred_add _ _).2
      isplitl [B0]; · iapply (due_bar 0 c) $$ B0
      iapply (due_bar 1 c) $$ B1
    iapply (due_bar 2 c) $$ B2
  isplitl [H0]; · iapply (due_recv 0 c) $$ H0
  isplitl [H1]; · iapply (due_recv 1 c) $$ H1
  iapply (due_recv 2 c) $$ H2

/-! ## The launch element -/

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  have h' : (SemLoc.dma (scSem p.2) : SemLoc sig) = .reg barS := congrArg (fun g : GSem nD τ sig => g.2) h
  cases h'

/-- The launch's element of the protocol, held by device 0 until everything is dealt. -/
def Purse (c : Dev nD) : sProp 𝕄 := if c = 0 then BI.own (ER (launchOf barCells scCells allToks)) else iprop(emp)
theorem purse_eq : bigSep Finset.univ (Purse : Dev nD → sProp 𝕄) = BI.own (ER (launchOf barCells scCells allToks)) := by
  rw [bigSep_univ_at _ (0 : Dev nD), bigSep_congr (s := Finset.univ.erase (0 : Dev nD)) (Ψ := fun _ => (BI.emp : sProp 𝕄))
      fun c hc => by unfold Purse; rw [if_neg (Finset.ne_of_mem_erase hc)]; rfl, BI.bigSep_emp_const]
  unfold Purse; rw [if_pos rfl]
  exact BI.equiv_iff.mp sep_emp

theorem bars_eq : (fun c : Dev nD => (unscopedSems0 c : sProp 𝕄)) = fun c => semVal (barCell c) 0 := by
  funext c
  unfold unscopedSems0
  rw [show (Finset.univ.filter fun sm : SemLoc sig => ¬ sm.isScoped .tc) = {SemLoc.reg barS} from by decide, BI.bigSep_singleton]

theorem opens_eq : bigSep scCells (fun g => (openTok ER g : sProp 𝕄)) = bigSep Finset.univ (fun c : Dev nD => Opens c) := by
  rw [bigSep_map, bigSep_univ_prod]
  refine bigSep_congr fun c _ => ?_
  unfold Opens
  rw [bigSep_univ_eq_bigSepL [(0 : Fin 7), 1, 2, 3, 4, 5, 6] (by decide) (by decide)]
  rfl

variable (m : (ℓ : Loc nD τ sig) → Buf (Elt F) ℓ) (ρ : Dev nD → PrngReg)

/-- What a device begins with. -/
abbrev T₀ (c : Dev nD) : sProp 𝕄 := iprop(StableHlo.held (c : Thread nD τ) (Pipeline.ucRefs τ sig) (V0 m c) ∗ Rest (V3 m) c)

/-- What a device holds at launch that is not of the protocol. -/
def Plain (c : Dev nD) : sProp 𝕄 :=
  iprop(StableHlo.held (c : Thread nD τ) (Pipeline.ucRefs τ sig) (V0 m c) ∗ Creds c ∗ owes (c : Thread nD τ) (O₀ c) ∅)

theorem plain_intro (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ Purse c)
      ⊢ (iprop(Plain m c ∗ semVal (barCell c) 0 ∗ Purse c) : sProp 𝕄) := by
  rw [show (unscopedBufs c (fun b => m ((c : Thread nD τ).loc b)) : sProp 𝕄) = StableHlo.held (c : Thread nD τ) (Pipeline.ucRefs τ sig) (V0 m c)
      from Pipeline.unscopedBufs_held c (V0 m c), congrFun bars_eq c]
  unfold Plain
  iintro ⟨Hh, Hb, HO, Hc, -, HP⟩
  isplitl [Hh HO Hc]
  · isplitl [Hh]; · iexact Hh
    isplitl [Hc]; · iapply (creds c) $$ Hc
    iexact HO
  isplitl [Hb]; · iexact Hb
  iexact HP

theorem begin_intro (K : GSem nD τ sig → ℕ) (c : Dev nD) :
    iprop(records (GV (V3 m)) K ∗ ((atPos ER (barCell c) 0 ∅ 0 ∗ Opens c ∗ Toks c) ∗ Plain m c)) ⊢ (T₀ m c : sProp 𝕄) := by
  unfold Plain T₀ Rest Deal
  iintro ⟨#HR, ⟨Ha, Ho, Ht⟩, Hh, Hc, HO⟩
  isplitl [Hh]; · iexact Hh
  isplitr; · iexists K; iexact HR
  isplitr [HO]
  · isplitl [Ha]; · iexact Ha
    isplitl [Ho]; · iexact Ho
    isplitl [Ht]; · iexact Ht
    iexact Hc
  iexists ∅; iexact HO

/-- THE DEAL. -/
theorem dealt :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Purse c)) ∗ levAts L lv)
      ⊢ (|={Set.univ}=> bigSep Finset.univ (T₀ m) : sProp 𝕄) := by
  have hbars : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hplaces : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hplain : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ Purse c))
      ⊢ (bigSep Finset.univ fun c : Dev nD => iprop(Plain m c ∗ semVal (barCell c) 0 ∗ Purse c) : sProp 𝕄) := bigSep_mono fun c _ => plain_intro m ρ c
  iintro ⟨H, -⟩
  ihave H := hplain $$ H
  ihave H := (Entails.of_eq (bigSep_sep' _ _ _)) $$ H
  icases H with ⟨HB, H⟩
  ihave H := (Entails.of_eq (bigSep_sep' _ _ _)) $$ H
  icases H with ⟨Hv, HP⟩
  ihave Hu := (Entails.of_eq (purse_eq (F := F))) $$ HP
  imod (Rounds.fund_launch ER (Rd (GV (V3 m))) disjoint_cells (fun g _ h => h) allToks) $$ [Hv Hu] with ⟨%K, -, #Hinv, #Hr, Hat, Hopen, Htok⟩
  · isplitl [Hv]; · iapply hbars $$ Hv
    iexact Hu
  imodintro
  iapply (bigSep_with_persistent (R := records (GV (V3 m)) K)
    (Φ := fun c => iprop((atPos ER (barCell c) 0 ∅ 0 ∗ Opens c ∗ Toks c) ∗ Plain m c)) fun c _ => begin_intro m K c)
  isplitr
  · unfold records
    isplitr; · iexact Hinv
    iexact Hr
  iapply (Entails.of_eq (bigSep_sep' _ _ _).symm)
  isplitr [HB]
  · iapply (Entails.of_eq (bigSep_sep' _ _ _).symm); isplitl [Hat]; · iapply hplaces $$ Hat
    iapply (Entails.of_eq (bigSep_sep' _ _ _).symm); isplitl [Hopen]; · iapply (Entails.of_eq (opens_eq (F := F))) $$ Hopen
    iapply (toks_dealt (F := F))
    iapply (Entails.of_eq (allToks_eq (F := F))) $$ Htok
  iexact HB

end Cert.KernelIdeal.Proof
-- ==== Proof.Launch.lean ====
/-
  THE RUN: from any memory with its counters at zero the program ends, with its arguments unchanged, every counter at zero and
  on each device, as its result, the blocks of every device.
-/
module

public import proofs.«01_k».proof.Proof.Deal

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

set_option backward.isDefEq.respectTransparency.types false in
theorem cells_inj : Function.Injective (Pipeline.PerCore.cellOf (nD := nD) (τ := τ) (Pipeline.pinD (pcfgs (F := F)) adms)) :=
  Pipeline.PerCore.cellOf_injective _ (fun _ p => by
    obtain rfl : p = 0 := Subsingleton.elim p 0
    exact Pipeline.specSemsDistinct_of_nodup _ (semsDistinct 0))
    (fun _ p p' h => absurd (Subsingleton.elim p p') h)

def u₀ : UU :=
  (initOf (Pipeline.PerCore.cells (Pipeline.pinD (pcfgs (F := F)) adms) cells_inj) (Pipeline.PerCore.launchToks (Pipeline.pinD (pcfgs (F := F)) adms) cells_inj),
    launchOf barCells scCells allToks)

/-- What rides along the host's lines. -/
abbrev ride (_ : Fin 2) (c : Dev nD) : sProp 𝕄 := Rest (V3 m) c

/-- @main as its items. -/
abbrev items (c : Dev nD) : List (Pipeline.PerCore.Seg (pcfgs (F := F)) adms (dats (V3 m)) () defs₀ 𝒱₀ L lv) :=
  [.host (seg0 m 𝒱₀ L lv (ride m) c), .host (seg1 m 𝒱₀ L lv (ride m)), .host (seg2 m 𝒱₀ L lv (ride m)), .region (region (V3 m) (table m))]

theorem unscoped_bar : ∀ sm : SemLoc sig, sm.isScoped .tc = false → sm = .reg barS := by decide

theorem mem_uc (r : Ref sig .tc) (h : (Proc.devRef .tc r : DevRef τ sig).isScoped = false := by decide) :
    (Proc.devRef .tc r : DevRef τ sig) ∈ Pipeline.ucRefs τ sig :=
  Finset.mem_filter.mpr ⟨StableHlo.devRef_mem_tcRefs r, by rw [h]; decide⟩

/-- What is read off a device at the end. -/
theorem ends (c : Dev nD) (s' : Phys nD τ sig (Elt F)) :
    iprop(Last (V3 m) c ∗ SI s') ⊢ (|={Set.univ}=> iprop(⌜(s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_v9) = outF (GV (V3 m)) c) ∧ s'.mem.sem (barCell c) = 0⌝ ∗ SI s') : sProp 𝕄) := by
  unfold Last StableHlo.held
  iintro ⟨⟨Hh, Hb⟩, HSI⟩
  icombine HSI Hb gives %hb
  ihave Hr := (pointsTo_read_all (Pipeline.ucRefs τ sig) (fun b => ((c : Thread nD τ).1, b)) (Vout (V3 m) c) s') $$ [Hh HSI]
  · isplitl [Hh] <;> iassumption
  icases Hr with ⟨%h, HSI⟩
  imodintro
  isplitr
  · ipureintro
    refine ⟨⟨?_, ?_, ?_⟩, by simpa using hb⟩
    · exact (h _ (mem_uc main_arg0)).trans ((vout_of (V3 m) c main_arg0 (by decide)).trans (arg0_kept m c))
    · exact (h _ (mem_uc main_arg1)).trans ((vout_of (V3 m) c main_arg1 (by decide)).trans (arg1_kept m c))
    · exact (h _ (mem_uc main_v9)).trans (vout_v9 (V3 m) c)
  iexact HSI

set_option backward.isDefEq.respectTransparency.types false in
/-- THE RUN. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v9) = outF (GV (V3 m)) c) ∧ r.2.sem = fun _ => 0) :=
  Pipeline.PerCore.θ_run_regions_kit_sems (pcfgs (F := F)) adms (dats (V3 m)) () cells_inj EP defs₀ 𝒱₀ L lv m ρ main (items m)
    (fun c Q => by
      rewrite [main_chain c, Pipeline.PerCore.Seg.run_eq_chain]
      exact .rfl)
    (fun c => by simp only [items, Pipeline.PerCore.Seg.pipes_host, Pipeline.PerCore.Seg.pipes_region, Pipeline.PerCore.Seg.pipes_nil]; decide)
    (O₀ := O₀) (hL := L_of_ne) (G := Purse) (u₀ := u₀ (F := F))
    (hu₀ := by
      unfold u₀
      iintro Hu
      ihave H := (ownU_pair _ _) $$ Hu
      icases H with ⟨HP, HX⟩
      imodintro
      isplitl [HP]; · iexact HP
      rw [purse_eq]; iexact HX)
    (T₀ := T₀ m) (Tₙ := Last (V3 m))
    (hch := fun c => ⟨.rfl, .rfl, .rfl, .rfl, .rfl⟩)
    (hinit := dealt m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v9) = outF (GV (V3 m)) c) ∧ s.sem (barCell c) = 0)
    (hfin := ends m)
    (hQ := fun s h hs => ⟨fun c => (h c).1, sem_eq_zero hs fun c sm hsm => by
        obtain rfl := unscoped_bar sm hsm
        exact (h c).2⟩)

end Cert.KernelIdeal.Proof
-- ==== Proof.Frames.lean ====
/-
  THE FRAMES: the run with the values dropped. The program as it runs and the one read over the extended reals have the same
  text, so the run of the second at the bits is the run of the first.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.KernelIdeal.Proof

open Idealize.ShloMosaic Idealize.SL.Sem
open Cert.KernelIdeal

/-- The frame, at any float values. -/
def Framed (F : FTy → Type) [FloatOps F] : Prop := ∀ (m : (ℓ : Loc nD τ sig) → Buf (Elt F) ℓ) (g : Dev nD → PrngReg), True →
  θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0)
theorem framed (F : FTy → Type) [FloatOps F] : Framed F := fun m g _ =>
  (θ_run defs _ _).mono (fun _ h => ⟨fun c => ⟨(h.1 c).1, (h.1 c).2.1⟩, h.2⟩) (run_main (F := F) m g)

/-- The claim of the program as it runs is the frame at the bits. -/
theorem bits_eq : Cert.quiescent_Kernel = Framed Bits := by sl_kernel_rfl
theorem frame_kernel : Cert.quiescent_Kernel := bits_eq.mpr (framed Bits)
theorem frame_ideal : Cert.quiescent_KernelIdeal := framed Ideal
/-- The reference ends, its arguments unchanged; it has no counter. -/
theorem frame_reference : Cert.quiescent_ReferenceIdeal := fun m g _ =>
  (θ_run Cert.ReferenceIdeal.defs _ _).mono (fun r h => ⟨fun c => ⟨(h c).2.1, (h c).2.2⟩, sem_eq_zero_of_no_sems rfl r.2⟩)
    (Cert.ReferenceIdeal.Value.run (F := Ideal) m g)

end Cert.KernelIdeal.Proof
-- ==== Proof.Blocks.lean ====
/-
  THE BLOCKS READ: what the two windows stage at a point, as entries of the factors by their coordinates.
-/
module

public import proofs.«01_k».proof.Proof.Region

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-! ## Positions by coordinates -/

/-- Position `(a, b)` of an array of `2048` rows of `8192`, the coordinates taken modulo the extents. -/
def posA (a b : ℕ) : S2048x8192.Idx := fun k =>
  ⟨(![a % 2048, b % 8192] : Fin 2 → ℕ) k, by fin_cases k <;> exact Nat.mod_lt _ (by decide)⟩
/-- Position `(a, b)` of an array of `8192` rows of `4096`. -/
def posW (a b : ℕ) : S8192x4096.Idx := fun k =>
  ⟨(![a % 8192, b % 4096] : Fin 2 → ℕ) k, by fin_cases k <;> exact Nat.mod_lt _ (by decide)⟩
/-- The whole left factor's shape. -/
abbrev XS : Shape := ⟨2, ![8192, 8192]⟩
/-- Position `(a, b)` of an array of `8192` rows of `8192`. -/
def posX (a b : ℕ) : XS.Idx := fun k =>
  ⟨(![a % 8192, b % 8192] : Fin 2 → ℕ) k, by fin_cases k <;> exact Nat.mod_lt _ (by decide)⟩

theorem posW_of {a b : ℕ} {i : S8192x4096.Idx} (h0 : (i 0).val = a) (h1 : (i 1).val = b) : i = posW a b := by
  subst h0 h1
  have h0 : (i 0).val < 8192 := (i 0).isLt
  have h1 : (i 1).val < 4096 := (i 1).isLt
  funext k; apply Fin.ext; fin_cases k
  · exact (Nat.mod_eq_of_lt h0).symm
  · exact (Nat.mod_eq_of_lt h1).symm
theorem posX_of {a b : ℕ} {i : XS.Idx} (h0 : (i 0).val = a) (h1 : (i 1).val = b) : i = posX a b := by
  subst h0 h1
  have h0 : (i 0).val < 8192 := (i 0).isLt
  have h1 : (i 1).val < 8192 := (i 1).isLt
  funext k; apply Fin.ext; fin_cases k
  · exact (Nat.mod_eq_of_lt h0).symm
  · exact (Nat.mod_eq_of_lt h1).symm

/-! ## The blocks -/

variable (V : Dev nD → Valuation τ sig (Elt F))

theorem nth_pt {s : ℕ} (h : s < 64) : clampPt (pt (grid0.coords (nth s))) = s := by
  rw [pt_coords]
  show min (min s 64) 63 = s
  omega

/-- The block of `x` at a point: half `s mod 2` of the rows, block `s mod 16 / 2` of the columns. -/
theorem xs_at (c : Dev nD) {s : ℕ} (h : s < 64) (j : S1024x1024.Idx) :
    xs V c s j = V c main_arg0 (posA (1024 * (s % 2) + (j 0).val) (1024 * (s % 16 / 2) + (j 1).val)) := by
  have h0 : (j 0).val < 1024 := (j 0).isLt
  have h1 : (j 1).val < 1024 := (j 1).isLt
  have hw := win0_eq (grid0.coords (nth s))
  rw [nth_pt h] at hw
  refine congrArg (V c main_arg0) ?_
  funext k; apply Fin.ext; fin_cases k
  · show cc0_transform_0 (grid0.coords (nth s)) 0 * 1024 + 1 * (j 0).val = (1024 * (s % 2) + (j 0).val) % 2048
    rw [hw]; show s % 2 * 1024 + 1 * (j 0).val = _
    omega
  · show cc0_transform_0 (grid0.coords (nth s)) 1 * 1024 + 1 * (j 1).val = (1024 * (s % 16 / 2) + (j 1).val) % 8192
    rw [hw]; show s % 16 / 2 * 1024 + 1 * (j 1).val = _
    omega

/-- The block of `w_mat`: block `s mod 16 / 2` of the rows, the columns of the device the chunk goes to. -/
theorem ws_at (c : Dev nD) {s : ℕ} (h : s < 64) (j : S1024x1024.Idx) :
    ws V c s j = V c main_arg1 (posW (1024 * (s % 16 / 2) + (j 0).val) (1024 * ((c.val + s / 16 + 1) % 4) + (j 1).val)) := by
  have h0 : (j 0).val < 1024 := (j 0).isLt
  have h1 : (j 1).val < 1024 := (j 1).isLt
  have hw := win1_eq (F := F) c (grid0.coords (nth s))
  rw [nth_pt h] at hw
  refine congrArg (V c main_arg1) ?_
  funext k; apply Fin.ext; fin_cases k
  · show cc0_transform_1 k0_off1_inb numel1_S1 (tabs (F := F) c) (grid0.coords (nth s)) 0 * 1024 + 1 * (j 0).val
      = (1024 * (s % 16 / 2) + (j 0).val) % 8192
    rw [hw]; show s % 16 / 2 * 1024 + 1 * (j 0).val = _
    omega
  · show cc0_transform_1 k0_off1_inb numel1_S1 (tabs (F := F) c) (grid0.coords (nth s)) 1 * 1024 + 1 * (j 1).val
      = (1024 * ((c.val + s / 16 + 1) % 4) + (j 1).val) % 4096
    rw [hw]; show (c.val + s / 16 + 1) % 4 * 1024 + 1 * (j 1).val = _
    omega

end Cert.KernelIdeal.Proof
-- ==== Proof.Pay.lean ====
/-
  THE PAYLOADS OVER THE EXTENDED REALS: a point's product at an entry, and the activation at an entry.
-/
module

public import proofs.«01_k».proof.Proof.Blocks
public import Idealize.ShloMosaic.Lib.Pointwise

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

/-- The activation over the extended reals, by its word constants. -/
def act (y : EReal) : EReal :=
  Ideal.ofBits .f32 0x3F000000#32 * y * (1 + Ideal.tanh (Ideal.ofBits .f32 0x3F4C422A#32 *
    (y + Ideal.ofBits .f32 0x3D372713#32 * (y * y * y))))

theorem ix2_pos (a b : Fin 1024) : (ix2 a b : S1024x1024.Idx) = pos2 a.val b.val := (pos2_eq (ix2 a b)).symm

/-- Choosing zero at the first block of the contraction. -/
theorem select_zero (b : BitVec 32) (p : EReal) :
    Scalar.select (Scalar.cmpi CmpIPredicate.eq b 0#32) 0 p = if b = 0#32 then 0 else p := by
  unfold Scalar.select Scalar.cmpi
  by_cases h : b = 0#32
  · simp [h, IntOp.cmpi]
  · have e : (b == 0#32) = false := beq_eq_false_iff_ne.mpr h
    simp [h, IntOp.cmpi, e]

/-- A point's product at an entry, over what it finds there. -/
theorem pay8_at (b : BitVec 32) (x w : Vec Ideal S1024x1024 .bf16) (p : Vec Ideal S1024x1024 .f32) (j : S1024x1024.Idx) :
    k0_pay8 b (k0_pay7 (k0_pay4 x)) (k0_pay6 (k0_pay5 w)) p j
      = (∑ t : Fin 1024, x (pos2 (j 0).val t.val) * w (pos2 t.val (j 1).val)) + if b = 0#32 then 0 else p j := by
  unfold k0_pay8 k0_pay7 k0_pay4 k0_pay6 k0_pay5
  idx_vars j
  pointwise
  rw [select_zero]
  simp only [ix2_pos]

/-- The activation at an entry of a chunk. -/
theorem pay9_at (v : Vec Ideal S1024x1024 .f32) (b c : ℕ) :
    k0_pay9 v (pos3 b c) = act (v (pos2 b c)) := by
  unfold k0_pay9 act
  pointwise
  have e : (ix2 (pos3 b c 1) (pos3 b c 2) : S1024x1024.Idx) = pos2 b c := by
    funext k; fin_cases k <;> rfl
  rw [e]
  generalize v (pos2 b c) = y
  simp only [mul_assoc, mul_comm, mul_left_comm]

end Cert.KernelIdeal.Proof
-- ==== Proof.RefValue.lean ====
/-
  THE REFERENCE'S VALUE over the extended reals: the activation of the whole product, entry by entry.
-/
module

public import proofs.«01_k».proof.Proof.Gen.ReferenceIdeal.Run
public import Idealize.ShloMosaic.Lib.Pointwise
public import proofs.«01_k».proof.Proof.Pay

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Proof (act posX posW posX_of posW_of)

/-- What the reference returns of its two arguments. -/
def refOut (x : FVec Ideal S8192x8192 .bf16) (w : FVec Ideal S8192x4096 .bf16) : FVec Ideal S8192x4096 .bf16 :=
  let y := Host.dotGeneral dot_S8192x8192_S8192x4096_S8192x4096_1_0_0_1_n_n none (extf .f32 x bitsLt_bf16_f32) (extf .f32 w bitsLt_bf16_f32)
  truncf .bf16 (mulf (mulf (broadcastInDim S8192x4096 ![] bcast_S_S8192x4096 (constant S_ .f32 0x3F000000#32)) y) (addf (broadcastInDim S8192x4096 ![] bcast_S_S8192x4096 (constant S_ .f32 0x3F800000#32))
    (Host.tanh (mulf (broadcastInDim S8192x4096 ![] bcast_S_S8192x4096 (constant S_ .f32 0x3F4C422A#32)) (addf y (mulf (broadcastInDim S8192x4096 ![] bcast_S_S8192x4096 (constant S_ .f32 0x3D372713#32)) (mulf (mulf y y) y))))))) bitsLt_bf16_f32

/-- The reference's run ends with that at the result. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

/-- Its entry: the sum over the whole contraction, activated. -/
theorem refOut_at (x : FVec Ideal S8192x8192 .bf16) (w : FVec Ideal S8192x4096 .bf16) (i : S8192x4096.Idx) :
    refOut x w i = act (∑ k ∈ Finset.range 8192, x (posX (i 0).val k) * w (posW k (i 1).val)) := by
  unfold refOut act
  rw [Finset.sum_range]
  idx_vars i
  have e : ∀ k : Fin 8192, x (posX i0.val k.val) * w (posW k.val i1.val) = x (ix2 i0 k) * w (ix2 k i1) := fun k =>
    congrArg₂ (fun a b => x a * w b) (posX_of (i := ix2 i0 k) rfl rfl).symm (posW_of (i := ix2 k i1) rfl rfl).symm
  pointwise
  simp only [e]

end Cert.ReferenceIdeal.Value
-- ==== Proof.Sums.lean ====
/-
  THE SUMS: what the accumulator holds is a sum over the contraction's prefix, and after its eight blocks the whole sum.
-/
module

public import proofs.«01_k».proof.Proof.Pay

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

variable (V : Dev nD → Valuation τ sig (Elt Ideal)) (c : Dev nD)

/-- The device's rows of the left factor, and the right one. -/
def lhs : S2048x8192.Idx → EReal := V c main_arg0
def rhs : S8192x4096.Idx → EReal := V c main_arg1
/-- The entry's product at place `k` of the contraction: row `a` of the device's rows, column `b` of the right factor. -/
def term (a b k : ℕ) : EReal := lhs V c (posA a k) * rhs V c (posW k b)

theorem kblk_word {t : ℕ} (h : t < 64) : BitVec.ofNat 32 (kblk (t + 1)) = 0#32 ↔ t % 16 / 2 = 0 := by
  have e : kblk (t + 1) = t % 16 / 2 := by unfold kblk; omega
  rw [e]
  constructor
  · intro hz
    have := congrArg BitVec.toNat hz
    simp only [BitVec.toNat_ofNat, Nat.reducePow] at this
    omega
  · intro hz; rw [hz]

/-- A point's store: its block's share of the sum, over what it finds there unless the block is the first. -/
theorem stp_at {t : ℕ} (h : t < 64) (p : Vec Ideal S1024x1024 .f32) (j : S1024x1024.Idx) :
    stp (xs V) (ws V) c (t + 1) p j
      = (∑ k ∈ Finset.range 1024, term V c (1024 * (t % 2) + (j 0).val) (1024 * ((c.val + t / 16 + 1) % 4) + (j 1).val)
          (1024 * (t % 16 / 2) + k)) + if t % 16 / 2 = 0 then 0 else p j := by
  have h0 : (j 0).val < 1024 := (j 0).isLt
  have h1 : (j 1).val < 1024 := (j 1).isLt
  unfold stp xv wv
  rw [pay8_at, Nat.add_sub_cancel, Finset.sum_range]
  simp only [kblk_word h]
  refine congrArg (· + _) (Finset.sum_congr rfl fun k _ => ?_)
  have hk : k.val < 1024 := k.isLt
  rw [xs_at V c h, ws_at V c h]
  unfold term lhs rhs
  have e0 : (pos2 (j 0).val k.val 0).val = (j 0).val := Nat.mod_eq_of_lt h0
  have e1 : (pos2 (j 0).val k.val 1).val = k.val := Nat.mod_eq_of_lt hk
  have e2 : (pos2 k.val (j 1).val 0).val = k.val := Nat.mod_eq_of_lt hk
  have e3 : (pos2 k.val (j 1).val 1).val = (j 1).val := Nat.mod_eq_of_lt h1
  rw [e0, e1, e2, e3]

/-- After point `t + 1` its half holds the sum over the contraction up to the point's block. -/
theorem accV_at : ∀ (t : ℕ) (h : t < 64) (j : S1024x1024.Idx),
    accV (xs V) (ws V) c (t + 1) j
      = ∑ k ∈ Finset.range (1024 * (t % 16 / 2) + 1024),
          term V c (1024 * (t % 2) + (j 0).val) (1024 * ((c.val + t / 16 + 1) % 4) + (j 1).val) k
  | 0, h, j => by
    show stp (xs V) (ws V) c (0 + 1) acc0 j = _
    rw [stp_at V c h]; simp
  | 1, h, j => by
    show stp (xs V) (ws V) c (1 + 1) (accV (xs V) (ws V) c 0) j = _
    rw [stp_at V c h]; simp
  | t + 2, h, j => by
    show stp (xs V) (ws V) c (t + 2 + 1) (accV (xs V) (ws V) c (t + 1)) j = _
    rw [stp_at V c h, Finset.sum_range_add, add_comm]
    by_cases hz : (t + 2) % 16 / 2 = 0
    · rw [if_pos hz, hz]; simp
    · rw [if_neg hz, accV_at t (by omega) j]
      have e0 : (t + 2) % 2 = t % 2 := by omega
      have e1 : (t + 2) / 16 = t / 16 := by omega
      have e2 : 1024 * ((t + 2) % 16 / 2) = 1024 * (t % 16 / 2) + 1024 := by omega
      rw [e0, e1, e2]

/-- A chunk's entry: the activation of the whole sum. -/
theorem Gv_at {r h : ℕ} (hr : r < 4) (hh : h < 2) (a b : ℕ) :
    GV V c r h (pos3 a b) = act (∑ k ∈ Finset.range 8192,
      term V c (1024 * h + a % 1024) (1024 * ((c.val + r + 1) % 4) + b % 1024) k) := by
  unfold GV Gv
  rw [pay9_at, show 16 * r + 15 + h = (16 * r + 14 + h) + 1 by omega, accV_at V c _ (by omega)]
  have e0 : (16 * r + 14 + h) % 2 = h := by omega
  have e1 : (16 * r + 14 + h) / 16 = r := by omega
  have e2 : 1024 * ((16 * r + 14 + h) % 16 / 2) + 1024 = 8192 := by omega
  rw [e0, e1, e2]
  rfl

/-- An entry of a device's result: the row's device's product with the columns of this one, activated. -/
theorem out_at (i : S8192x1024.Idx) (d : Dev nD) (hd : d.val = (i 0).val / 2048) :
    outF (GV V) c i = act (∑ k ∈ Finset.range 8192, term V d ((i 0).val % 2048) (1024 * c.val + (i 1).val) k) := by
  have h1 : (i 1).val < 1024 := (i 1).isLt
  have hc : c.val < 4 := c.isLt
  have hd4 : d.val < 4 := d.isLt
  show outG (GV V) c ((i 0).val / 2048) ((i 0).val % 2048 / 1024) (pos3 (i 0).val (i 1).val) = _
  rw [← hd]
  unfold outG
  rw [dif_pos hd4]
  show GV V d ((c.val + 3 - d.val) % 4) _ _ = _
  rw [Gv_at V d (by omega) (by omega)]
  have e0 : 1024 * ((i 0).val % 2048 / 1024) + (i 0).val % 1024 = (i 0).val % 2048 := by omega
  have e1 : (d.val + (c.val + 3 - d.val) % 4 + 1) % 4 = c.val := by omega
  rw [e0, e1, Nat.mod_eq_of_lt h1]

end Cert.KernelIdeal.Proof
-- ==== Proof.Algebraic.lean ====
/-
  THE RESULTS AGREE: over the extended reals device `c` ends with block `c` of the columns of what the reference returns.
-/
module

public import proofs.«01_k».proof.Defs
public import proofs.«01_k».proof.Proof.RefValue
public import proofs.«01_k».proof.Proof.Sums
public import proofs.«01_k».proof.Proof.Launch

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.Tactic

variable {F : FTy → Type} [FloatOps F]

local notation "𝕄" => MT nD τ sig Unit (Elt F) ℕ UU ℕ

open Cert.ReferenceIdeal.Value (refOut refOut_at run_ref)

/-- The kernel's result of its factors is the block of the reference's, when each device holds its rows of the left factor
    and all of the right one. -/
theorem out_block (V : Dev nD → Valuation τ sig (Elt Ideal)) (x : XS.Idx → EReal) (w : S8192x4096.Idx → EReal)
    (hx : ∀ c, V c main_arg0 = Layout.block ⟨2, ![2048, 8192]⟩ ⟨2, ![8192, 8192]⟩ 0 4 c x) (hw : ∀ c, V c main_arg1 = w) (c : Dev nD) :
    outF (GV V) c = Layout.block ⟨2, ![8192, 1024]⟩ ⟨2, ![8192, 4096]⟩ 1 4 c (refOut x w) := by
  funext i
  have h0 : (i 0).val < 8192 := (i 0).isLt
  have hd : (i 0).val / 2048 < 4 := by omega
  rw [out_at V c i ⟨(i 0).val / 2048, hd⟩ rfl, Layout.block_apply, refOut_at]
  refine congrArg act (Finset.sum_congr rfl fun k hk => ?_)
  have hk : k < 8192 := Finset.mem_range.mp hk
  unfold term lhs rhs
  rw [hx, hw, Layout.block_apply]
  refine congrArg₂ (fun a b => x a * w b) (posX_of ?_ ?_) ?_
  · show (i 0).val / 2048 * 2048 + (i 0).val % 2048 % 2048 = (i 0).val
    omega
  · show k % 8192 = k
    exact Nat.mod_eq_of_lt hk
  · refine congrArg (posW k) ?_
    show 1024 * c.val + (i 1).val = c.val * 1024 + (i 1).val
    rw [Nat.mul_comm]

/-- Over the extended reals the kernel and the reference agree. -/
theorem algebraic : Cert.algebraic_KernelIdeal_ReferenceIdeal := by
  intro m g m' g' _ hagree
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨?_, (h.1 c).1, (h.1 c).2.1⟩) (run_main (F := Ideal) m g)
    exact (h.1 c).2.2.trans (out_block (V3 m) _ _ (fun c => (arg0_kept m c).trans (hagree c).1)
      (fun c => (arg1_kept m c).trans (hagree c).2) c)
  · exact (θ_run Cert.ReferenceIdeal.defs _ _).mono (fun r h => h 0) (run_ref m' g')

end Cert.KernelIdeal.Proof
-- ==== Proof.lean ====
/-
  THE CLAIM. The frames are the run of the kernel and of the reference with the values dropped; the agreement of the
  results over the extended reals is that run with the sums evaluated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, KernelIdeal.Proof.frame_kernel, KernelIdeal.Proof.frame_ideal,
    KernelIdeal.Proof.frame_reference, trivial, KernelIdeal.Proof.algebraic⟩

end Cert.Proof

end
